-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 512]⟩ ⟨2, ![32768, 512]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![1024, 1]⟩ ⟨2, ![32768, 1]⟩ 0 32 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![4, 512, 1024]⟩ ⟨3, ![128, 512, 1024]⟩ 0 32 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 1024]⟩ ⟨2, ![32768, 1024]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v23) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x512 : Shape := ⟨2, ![1024, 512]⟩
abbrev S512x128 : Shape := ⟨2, ![512, 128]⟩
abbrev S1024x1 : Shape := ⟨2, ![1024, 1]⟩
abbrev S4x512x1024 : Shape := ⟨3, ![4, 512, 1024]⟩
abbrev S1024x1024 : Shape := ⟨2, ![1024, 1024]⟩
abbrev S2x4x512x1024 : Shape := ⟨4, ![2, 4, 512, 1024]⟩
abbrev S1x128 : Shape := ⟨2, ![1, 128]⟩
abbrev S32x128 : Shape := ⟨2, ![32, 128]⟩
abbrev S2 : Shape := ⟨1, ![2]⟩
abbrev S32 : Shape := ⟨1, ![32]⟩
abbrev S_ : Shape := ⟨0, ![]⟩
abbrev S1024x128 : Shape := ⟨2, ![1024, 128]⟩
abbrev S128 : Shape := ⟨1, ![128]⟩
abbrev S1 : Shape := ⟨1, ![1]⟩
abbrev S1024 : Shape := ⟨1, ![1024]⟩
abbrev S1x4x512x1024 : Shape := ⟨4, ![1, 4, 512, 1024]⟩
abbrev S1x1x512x1024 : Shape := ⟨4, ![1, 1, 512, 1024]⟩
abbrev S512x1024 : Shape := ⟨2, ![512, 1024]⟩

abbrev nBuf : Space → Nat
  | .hbm => 5
  | .vmem => 8
  | .smem => 0
  | _ => 0

abbrev bufTy : (tb : Table) → Fin (tcTables nBuf tb) → BufTy
  | .hbm, ⟨0, _⟩ => ⟨S1024x512, .bf16⟩
  | .hbm, ⟨1, _⟩ => ⟨S512x128, .bf16⟩
  | .hbm, ⟨2, _⟩ => ⟨S1024x1, .i32⟩
  | .hbm, ⟨3, _⟩ => ⟨S4x512x1024, .bf16⟩
  | .hbm, ⟨4, _⟩ => ⟨S1024x1024, .f32⟩
  | .local _ .vmem, ⟨0, _⟩ => ⟨S1024x512, .bf16⟩
  | .local _ .vmem, ⟨1, _⟩ => ⟨S1024x1, .i32⟩
  | .local _ .vmem, ⟨2, _⟩ => ⟨S4x512x1024, .bf16⟩
  | .local _ .vmem, ⟨3, _⟩ => ⟨S1024x1024, .f32⟩
  | .local _ .vmem, ⟨4, _⟩ => ⟨S2x4x512x1024, .bf16⟩
  | .local _ .vmem, ⟨5, _⟩ => ⟨S1024x512, .bf16⟩
  | .local _ .vmem, ⟨6, _⟩ => ⟨S1x128, .i32⟩
  | .local _ .vmem, ⟨7, _⟩ => ⟨S32x128, .i32⟩
  | _, _ => ⟨S1024x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 2 → Bool
  | ⟨0, _⟩ => true
  | ⟨1, _⟩ => false
  | _ => false

abbrev dmaSemScoped : Fin 72 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | _ => false

abbrev sig : RefSig :=
  (ofTc nBuf bufTy 2 72 bufScoped semScoped dmaSemScoped tileCredit tileCredit_eq_zero tileCredit_pos).withBarriers [(0, 1)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 1

abbrev nD : Nat := 32
abbrev τ : Topo := Topo.v7x

variable {F : FTy → Type} [FloatOps F]

abbrev grid0 : Pipeline.Grid := .none

@[reducible] def k0_t1_loop : Scf.Loop 32 :=
  let c0_i32 : BitVec 32 := 0#32
  let c32_i32_5 : BitVec 32 := 32#32
  let v9 : BitVec 32 := Scalar.addi c0_i32 c32_i32_5
  let c1_i32_6 : BitVec 32 := 1#32
  ⟨c0_i32, v9, c1_i32_6⟩
def k0_dev1 (k0_t1 : Fin k0_t1_loop.trips) : Nat :=
  let c0_i32_94 : BitVec 32 := 0#32
  let c0_i32 : BitVec 32 := 0#32
  let c1_i32_6 : BitVec 32 := 1#32
  let arg13 : BitVec 32 := Scf.iv c0_i32 c1_i32_6 k0_t1
  let c1_i32_93 : BitVec 32 := 1#32
  let v126 : BitVec 32 := Scalar.muli arg13 c1_i32_93
  let v127 : BitVec 32 := Scalar.addi c0_i32_94 v126
  v127.toNat
@[reducible] def k0_t2_loop : Scf.Loop 32 :=
  let c0_i32_12 : BitVec 32 := 0#32
  let c32_i32_13 : BitVec 32 := 32#32
  let v23 : BitVec 32 := Scalar.addi c0_i32_12 c32_i32_13
  let c1_i32_14 : BitVec 32 := 1#32
  ⟨c0_i32_12, v23, c1_i32_14⟩
def k0_cond1 (d0 : Dev nD) (k0_t2 : Fin k0_t2_loop.trips) : BitVec 1 :=
  let c0_i32_12 : BitVec 32 := 0#32
  let c1_i32_14 : BitVec 32 := 1#32
  let arg13 : BitVec 32 := Scf.iv c0_i32_12 c1_i32_14 k0_t2
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v126 : BitVec 1 := Scalar.cmpi .ne arg13 v2
  let v127 : BitVec 32 := Scalar.extui v126
  let c0_i32_92 : BitVec 32 := 0#32
  let v128 : BitVec 1 := Scalar.cmpi .ne v127 c0_i32_92
  v128

def k0_off1 (k0_t2 : Fin k0_t2_loop.trips) : Fin 1 → Nat :=
  let c0_i32_12 : BitVec 32 := 0#32
  let c1_i32_14 : BitVec 32 := 1#32
  let arg13 : BitVec 32 := Scf.iv c0_i32_12 c1_i32_14 k0_t2
  ![arg13.toNat]
def k0_off2 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off3 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_95 : BitVec 32 := 0#32
  ![v2.toNat, 0]
def k0_dev2 (k0_t2 : Fin k0_t2_loop.trips) : Nat :=
  let c0_i32_94 : BitVec 32 := 0#32
  let c0_i32_12 : BitVec 32 := 0#32
  let c1_i32_14 : BitVec 32 := 1#32
  let arg13 : BitVec 32 := Scf.iv c0_i32_12 c1_i32_14 k0_t2
  let c1_i32_93 : BitVec 32 := 1#32
  let v129 : BitVec 32 := Scalar.muli arg13 c1_i32_93
  let v130 : BitVec 32 := Scalar.addi c0_i32_94 v129
  v130.toNat
@[reducible] def k0_t3_loop : Scf.Loop 32 :=
  let c0_i32_16 : BitVec 32 := 0#32
  let c32_i32_17 : BitVec 32 := 32#32
  let v24 : BitVec 32 := Scalar.addi c0_i32_16 c32_i32_17
  let c1_i32_18 : BitVec 32 := 1#32
  ⟨c0_i32_16, v24, c1_i32_18⟩
def k0_cond2 (d0 : Dev nD) (k0_t3 : Fin k0_t3_loop.trips) : BitVec 1 :=
  let c0_i32_16 : BitVec 32 := 0#32
  let c1_i32_18 : BitVec 32 := 1#32
  let arg13 : BitVec 32 := Scf.iv c0_i32_16 c1_i32_18 k0_t3
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v126 : BitVec 1 := Scalar.cmpi .ne arg13 v2
  let v127 : BitVec 32 := Scalar.extui v126
  let c0_i32_92 : BitVec 32 := 0#32
  let v128 : BitVec 1 := Scalar.cmpi .ne v127 c0_i32_92
  v128

def k0_off4 (k0_t3 : Fin k0_t3_loop.trips) : Fin 1 → Nat :=
  let c0_i32_16 : BitVec 32 := 0#32
  let c1_i32_18 : BitVec 32 := 1#32
  let arg13 : BitVec 32 := Scf.iv c0_i32_16 c1_i32_18 k0_t3
  ![arg13.toNat]
def k0_off5 (k0_t3 : Fin k0_t3_loop.trips) : Fin 2 → Nat :=
  let c0_i32_16 : BitVec 32 := 0#32
  let c1_i32_18 : BitVec 32 := 1#32
  let arg13 : BitVec 32 := Scf.iv c0_i32_16 c1_i32_18 k0_t3
  let c0_i32_95 : BitVec 32 := 0#32
  ![arg13.toNat, 0]
@[reducible] def k0_t4_loop : Scf.Loop 32 :=
  let c0_i32_20 : BitVec 32 := 0#32
  let c32_i32_21 : BitVec 32 := 32#32
  let v25 : BitVec 32 := Scalar.addi c0_i32_20 c32_i32_21
  let c1_i32_22 : BitVec 32 := 1#32
  ⟨c0_i32_20, v25, c1_i32_22⟩
def k0_cond3 (d0 : Dev nD) (k0_t4 : Fin k0_t4_loop.trips) : BitVec 1 :=
  let c0_i32_20 : BitVec 32 := 0#32
  let c1_i32_22 : BitVec 32 := 1#32
  let arg13 : BitVec 32 := Scf.iv c0_i32_20 c1_i32_22 k0_t4
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v126 : BitVec 1 := Scalar.cmpi .ne arg13 v2
  let v127 : BitVec 32 := Scalar.extui v126
  let c0_i32_92 : BitVec 32 := 0#32
  let v128 : BitVec 1 := Scalar.cmpi .ne v127 c0_i32_92
  v128

def k0_off6 (k0_t4 : Fin k0_t4_loop.trips) : Fin 1 → Nat :=
  let c0_i32_20 : BitVec 32 := 0#32
  let c1_i32_22 : BitVec 32 := 1#32
  let arg13 : BitVec 32 := Scf.iv c0_i32_20 c1_i32_22 k0_t4
  ![arg13.toNat]
def k0_off7 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_94 : BitVec 32 := 0#32
  ![v2.toNat, 0]
@[reducible] def k0_t5_loop : Scf.Loop 32 :=
  let c1_i32_89 : BitVec 32 := 1#32
  let c31_i32 : BitVec 32 := 31#32
  let v125 : BitVec 32 := Scalar.addi c1_i32_89 c31_i32
  let c1_i32_90 : BitVec 32 := 1#32
  ⟨c1_i32_89, v125, c1_i32_90⟩
def k0_off8 (k0_t5 : Fin k0_t5_loop.trips) : Fin 1 → Nat :=
  let c1_i32_89 : BitVec 32 := 1#32
  let c1_i32_90 : BitVec 32 := 1#32
  let arg13 : BitVec 32 := Scf.iv c1_i32_89 c1_i32_90 k0_t5
  let c1_i32_92 : BitVec 32 := 1#32
  let v126 : BitVec 32 := Scalar.subi arg13 c1_i32_92
  let c2_i32_93 : BitVec 32 := 2#32
  let v127 : BitVec 32 := Scalar.remsi v126 c2_i32_93
  ![v127.toNat]
def k0_off9 (k0_t5 : Fin k0_t5_loop.trips) : Fin 1 → Nat :=
  let c1_i32_89 : BitVec 32 := 1#32
  let c1_i32_90 : BitVec 32 := 1#32
  let arg13 : BitVec 32 := Scf.iv c1_i32_89 c1_i32_90 k0_t5
  let c2_i32_94 : BitVec 32 := 2#32
  let v128 : BitVec 32 := Scalar.remsi arg13 c2_i32_94
  ![v128.toNat]
def k0_off10 (k0_t5 : Fin k0_t5_loop.trips) : Fin 4 → Nat :=
  let c1_i32_89 : BitVec 32 := 1#32
  let c1_i32_90 : BitVec 32 := 1#32
  let arg13 : BitVec 32 := Scf.iv c1_i32_89 c1_i32_90 k0_t5
  let c2_i32_94 : BitVec 32 := 2#32
  let v128 : BitVec 32 := Scalar.remsi arg13 c2_i32_94
  let c0_i32_99 : BitVec 32 := 0#32
  let c0_i32_100 : BitVec 32 := 0#32
  let c0_i32_101 : BitVec 32 := 0#32
  ![v128.toNat, 0, 0, 0]
def k0_off11 (k0_t5 : Fin k0_t5_loop.trips) : Fin 4 → Nat :=
  let c1_i32_89 : BitVec 32 := 1#32
  let c1_i32_90 : BitVec 32 := 1#32
  let arg13 : BitVec 32 := Scf.iv c1_i32_89 c1_i32_90 k0_t5
  let c1_i32_92 : BitVec 32 := 1#32
  let v126 : BitVec 32 := Scalar.subi arg13 c1_i32_92
  let c2_i32_93 : BitVec 32 := 2#32
  let v127 : BitVec 32 := Scalar.remsi v126 c2_i32_93
  let c0_i32_102 : BitVec 32 := 0#32
  let c0_i32_103 : BitVec 32 := 0#32
  let c0_i32_104 : BitVec 32 := 0#32
  ![v127.toNat, 0, 0, 0]
def k0_dev3 (d0 : Dev nD) : Nat :=
  let c0_i32_98 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_97 : BitVec 32 := 1#32
  let v132 : BitVec 32 := Scalar.muli v7 c1_i32_97
  let v133 : BitVec 32 := Scalar.addi c0_i32_98 v132
  v133.toNat
def k0_cond5 (k0_t5 : Fin k0_t5_loop.trips) : BitVec 1 :=
  let c1_i32_89 : BitVec 32 := 1#32
  let c1_i32_90 : BitVec 32 := 1#32
  let arg13 : BitVec 32 := Scf.iv c1_i32_89 c1_i32_90 k0_t5
  let c30_i32 : BitVec 32 := 30#32
  let v156 : BitVec 1 := Scalar.cmpi .sle arg13 c30_i32
  let v157 : BitVec 32 := Scalar.extui v156
  let c0_i32_120 : BitVec 32 := 0#32
  let v158 : BitVec 1 := Scalar.cmpi .ne v157 c0_i32_120
  v158

def k0_dev4 (d0 : Dev nD) : Nat :=
  let c0_i32_171 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_170 : BitVec 32 := 1#32
  let v231 : BitVec 32 := Scalar.muli v5 c1_i32_170
  let v232 : BitVec 32 := Scalar.addi c0_i32_171 v231
  v232.toNat
def k0_off12 (k0_t5 : Fin k0_t5_loop.trips) : Fin 4 → Nat :=
  let c1_i32_89 : BitVec 32 := 1#32
  let c1_i32_90 : BitVec 32 := 1#32
  let arg13 : BitVec 32 := Scf.iv c1_i32_89 c1_i32_90 k0_t5
  let c2_i32_94 : BitVec 32 := 2#32
  let v128 : BitVec 32 := Scalar.remsi arg13 c2_i32_94
  let v172 : Index := Scalar.indexCast v128
  let c0_128 : Index := 0#32
  let c0_129 : Index := 0#32
  let c0_130 : Index := 0#32
  ![v172.toNat, 0, 0, 0]
def k0_off13 (k0_t5 : Fin k0_t5_loop.trips) : Fin 4 → Nat :=
  let c1_i32_89 : BitVec 32 := 1#32
  let c1_i32_90 : BitVec 32 := 1#32
  let arg13 : BitVec 32 := Scf.iv c1_i32_89 c1_i32_90 k0_t5
  let c2_i32_94 : BitVec 32 := 2#32
  let v128 : BitVec 32 := Scalar.remsi arg13 c2_i32_94
  let v189 : Index := Scalar.indexCast v128
  let c1_139 : Index := 1#32
  let c0_140 : Index := 0#32
  let c0_141 : Index := 0#32
  ![v189.toNat, 1, 0, 0]
def k0_off14 (k0_t5 : Fin k0_t5_loop.trips) : Fin 4 → Nat :=
  let c1_i32_89 : BitVec 32 := 1#32
  let c1_i32_90 : BitVec 32 := 1#32
  let arg13 : BitVec 32 := Scf.iv c1_i32_89 c1_i32_90 k0_t5
  let c2_i32_94 : BitVec 32 := 2#32
  let v128 : BitVec 32 := Scalar.remsi arg13 c2_i32_94
  let v206 : Index := Scalar.indexCast v128
  let c2_150 : Index := 2#32
  let c0_151 : Index := 0#32
  let c0_152 : Index := 0#32
  ![v206.toNat, 2, 0, 0]
def k0_off15 (k0_t5 : Fin k0_t5_loop.trips) : Fin 4 → Nat :=
  let c1_i32_89 : BitVec 32 := 1#32
  let c1_i32_90 : BitVec 32 := 1#32
  let arg13 : BitVec 32 := Scf.iv c1_i32_89 c1_i32_90 k0_t5
  let c2_i32_94 : BitVec 32 := 2#32
  let v128 : BitVec 32 := Scalar.remsi arg13 c2_i32_94
  let v223 : Index := Scalar.indexCast v128
  let c3_161 : Index := 3#32
  let c0_162 : Index := 0#32
  let c0_163 : Index := 0#32
  ![v223.toNat, 3, 0, 0]
abbrev stage0_0 : Fin 1 → Memref sig .tc .vmem S1024x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S32768x512 : Shape := ⟨2, ![32768, 512]⟩
abbrev S512x128 : Shape := ⟨2, ![512, 128]⟩
abbrev S32768x1 : Shape := ⟨2, ![32768, 1]⟩
abbrev S128x512x1024 : Shape := ⟨3, ![128, 512, 1024]⟩
abbrev S32768 : Shape := ⟨1, ![32768]⟩
abbrev S128 : Shape := ⟨1, ![128]⟩
abbrev S1x128 : Shape := ⟨2, ![1, 128]⟩
abbrev S32768x128 : Shape := ⟨2, ![32768, 128]⟩
abbrev S_ : Shape := ⟨0, ![]⟩
abbrev S32768x512x1024 : Shape := ⟨3, ![32768, 512, 1024]⟩
abbrev S32768x1024 : Shape := ⟨2, ![32768, 1024]⟩

abbrev nBuf : Space → Nat
  | .hbm => 39
  | .vmem => 0
  | .smem => 0
  | _ => 0

abbrev bufTy : (tb : Table) → Fin (tcTables nBuf tb) → BufTy
  | .hbm, ⟨0, _⟩ => ⟨S32768x512, .bf16⟩
  | .hbm, ⟨1, _⟩ => ⟨S512x128, .bf16⟩
  | .hbm, ⟨2, _⟩ => ⟨S32768x1, .i32⟩
  | .hbm, ⟨3, _⟩ => ⟨S128x512x1024, .bf16⟩
  | .hbm, ⟨4, _⟩ => ⟨S32768, .i32⟩
  | .hbm, ⟨5, _⟩ => ⟨S32768x1, .i32⟩
  | .hbm, ⟨6, _⟩ => ⟨S128, .i32⟩
  | .hbm, ⟨7, _⟩ => ⟨S1x128, .i32⟩
  | .hbm, ⟨8, _⟩ => ⟨S32768x128, .i32⟩
  | .hbm, ⟨9, _⟩ => ⟨S32768x128, .i32⟩
  | .hbm, ⟨10, _⟩ => ⟨S32768x128, .i1⟩
  | .hbm, ⟨11, _⟩ => ⟨S32768x128, .i32⟩
  | .hbm, ⟨12, _⟩ => ⟨S_, .i32⟩
  | .hbm, ⟨13, _⟩ => ⟨S_, .i32⟩
  | .hbm, ⟨14, _⟩ => ⟨S32768x128, .i32⟩
  | .hbm, ⟨15, _⟩ => ⟨S32768x128, .i32⟩
  | .hbm, ⟨16, _⟩ => ⟨S32768x128, .i32⟩
  | .hbm, ⟨17, _⟩ => ⟨S_, .i32⟩
  | .hbm, ⟨18, _⟩ => ⟨S32768, .i32⟩
  | .hbm, ⟨19, _⟩ => ⟨S_, .i32⟩
  | .hbm, ⟨20, _⟩ => ⟨S32768, .i32⟩
  | .hbm, ⟨21, _⟩ => ⟨S32768, .i1⟩
  | .hbm, ⟨22, _⟩ => ⟨S_, .i32⟩
  | .hbm, ⟨23, _⟩ => ⟨S32768, .i32⟩
  | .hbm, ⟨24, _⟩ => ⟨S32768, .i1⟩
  | .hbm, ⟨25, _⟩ => ⟨S32768, .i1⟩
  | .hbm, ⟨26, _⟩ => ⟨S_, .i32⟩
  | .hbm, ⟨27, _⟩ => ⟨S32768, .i32⟩
  | .hbm, ⟨28, _⟩ => ⟨S32768, .i1⟩
  | .hbm, ⟨29, _⟩ => ⟨S32768, .i1⟩
  | .hbm, ⟨30, _⟩ => ⟨S32768x1, .i32⟩
  | .hbm, ⟨31, _⟩ => ⟨S32768x512x1024, .bf16⟩
  | .hbm, ⟨32, _⟩ => ⟨S32768x1024, .f32⟩
  | .hbm, ⟨33, _⟩ => ⟨S32768x1, .i1⟩
  | .hbm, ⟨34, _⟩ => ⟨S_, .f32⟩
  | .hbm, ⟨35, _⟩ => ⟨S_, .f32⟩
  | .hbm, ⟨36, _⟩ => ⟨S32768x1024, .i1⟩
  | .hbm, ⟨37, _⟩ => ⟨S32768x1024, .f32⟩
  | .hbm, ⟨38, _⟩ => ⟨S32768x1024, .f32⟩
  | _, _ => ⟨S32768x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_call0_call0_c : Ref sig .tc := ⟨.hbm, 12, rfl⟩
abbrev main_call0_call0_v0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c : Ref sig .tc := ⟨.hbm, 17, rfl⟩
abbrev main_v11 : Ref sig .tc := ⟨.hbm, 18, rfl⟩
abbrev main_c_0 : Ref sig .tc := ⟨.hbm, 19, rfl⟩
abbrev main_v12 : Ref sig .tc := ⟨.hbm, 20, rfl⟩
abbrev main_v13 : Ref sig .tc := ⟨.hbm, 21, rfl⟩
abbrev main_c_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_call1_v0 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst : Ref sig .tc := ⟨.hbm, 34, rfl⟩
abbrev main_call2_v0 : Ref sig .tc := ⟨.hbm, 35, rfl⟩
abbrev main_call2_v1 : Ref sig .tc := ⟨.hbm, 36, rfl⟩
abbrev main_call2_v2 : Ref sig .tc := ⟨.hbm, 37, rfl⟩
abbrev main_v23 : Ref sig .tc := ⟨.hbm, 38, rfl⟩

abbrev nD : Nat := 1
abbrev τ : Topo := Topo.v7x

variable {F : FTy → Type} [FloatOps F]
-- ==== Proof.Util.lean ====
/-
Sums and separating conjunctions over the trips of a loop still to come, or already made: how they begin, how a trip takes
one summand off, and how they end.
-/
module

public import Idealize.ShloMosaic.Lib.Pipeline.SiteBlocks

@[expose] public section

noncomputable section

namespace Cert.Util

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

/-! ## Sums -/

/-- The sum of `f` over the indices from `k` on. -/
def tail {n : ℕ} {A : Type} [AddCommMonoid A] (k : ℕ) (f : Fin n → A) : A := ∑ j, if k ≤ j.val then f j else 0

theorem tail_zero {n : ℕ} {A : Type} [AddCommMonoid A] (f : Fin n → A) : tail 0 f = ∑ j, f j :=
  Finset.sum_congr rfl fun j _ => if_pos (Nat.zero_le _)
theorem tail_end {n : ℕ} {A : Type} [AddCommMonoid A] {k : ℕ} (h : n ≤ k) (f : Fin n → A) : tail k f = 0 :=
  Finset.sum_eq_zero fun j _ => if_neg (by have := j.isLt; omega)
/-- The first summand taken off. -/
theorem tail_peel {n : ℕ} {A : Type} [AddCommMonoid A] (k : Fin n) (f : Fin n → A) : tail k.val f = tail (k.val + 1) f + f k := by
  unfold tail
  rw [Finset.sum_congr rfl fun j _ => show (if k.val ≤ j.val then f j else 0) = (if k.val + 1 ≤ j.val then f j else 0) + (if j = k then f j else 0) from ?_,
    Finset.sum_add_distrib, Finset.sum_ite_eq' Finset.univ k f, if_pos (Finset.mem_univ _)]
  by_cases h : j = k
  · subst h; rw [if_pos (le_refl _), if_neg (by omega), if_pos rfl, zero_add]
  · have h' : j.val ≠ k.val := fun e => h (Fin.ext e)
    rw [if_neg h, add_zero]
    by_cases hl : k.val ≤ j.val
    · rw [if_pos hl, if_pos (by omega)]
    · rw [if_neg hl, if_neg (by omega)]

section Tally
variable {nD : ℕ} {τ : Topo} {sig : RefSig}

/-- Everything that `O` owes lies at an index with a level, above `i`. -/
def Above (N i : ℕ) (O : CellTallies nD τ sig ℕ) : Prop := ∀ g (k : ℕ), 0 < O g k → k ∈ SiteBlocks.L N g ∧ i < k

theorem above_zero (N i : ℕ) : Above N i (0 : CellTallies nD τ sig ℕ) := fun _ _ h => absurd h (Nat.lt_irrefl 0)
theorem above_add {N i : ℕ} {O O' : CellTallies nD τ sig ℕ} (h : Above N i O) (h' : Above N i O') : Above N i (O + O') := fun g k hk => by
  rw [Pi.add_apply, Finsupp.add_apply] at hk
  rcases Nat.pos_of_ne_zero (n := O g k) |> fun _ => Nat.eq_zero_or_pos (O g k) with h0 | h0
  · exact h' g k (by omega)
  · exact h g k h0
theorem above_tally {N i : ℕ} {g : GSem nD τ sig} (hg : g.1.2 = .tc) {j n : ℕ} (hj : j < N) (hi : i < j) :
    Above N i (tallyAt g j n : CellTallies nD τ sig ℕ) := fun g' k hk => by
  obtain ⟨rfl, rfl⟩ := Pipeline.tallyAt_pos hk
  exact ⟨SiteBlocks.mem_L' hg hj, hi⟩
theorem above_ite {N i : ℕ} {p : Prop} [Decidable p] {O : CellTallies nD τ sig ℕ} (h : p → Above N i O) : Above N i (if p then O else 0) := by
  by_cases hp : p
  · rw [if_pos hp]; exact h hp
  · rw [if_neg hp]; exact above_zero N i
theorem above_sum {N i : ℕ} {T : Type} (S : Finset T) (f : T → CellTallies nD τ sig ℕ) (h : ∀ t ∈ S, Above N i (f t)) : Above N i (∑ t ∈ S, f t) := by
  classical
  induction S using Finset.induction_on with
  | empty => rw [Finset.sum_empty]; exact above_zero N i
  | insert t S ht ih =>
    rw [Finset.sum_insert ht]
    exact above_add (h t (Finset.mem_insert_self _ _)) (ih fun t' h' => h t' (Finset.mem_insert_of_mem h'))
theorem above_tail {N i n k : ℕ} (f : Fin n → CellTallies nD τ sig ℕ) (h : ∀ j : Fin n, k ≤ j.val → Above N i (f j)) : Above N i (tail k f) :=
  above_sum _ _ fun j _ => above_ite (h j)

/-- `n` units one by one are `n` units. -/
theorem sum_tally_one {T : Type} (S : Finset T) (g : GSem nD τ sig) (i : ℕ) : (∑ _t ∈ S, (tallyAt g i 1 : CellTallies nD τ sig ℕ)) = tallyAt g i S.card := by
  classical
  induction S using Finset.induction_on with
  | empty => rw [Finset.sum_empty, Finset.card_empty, tallyAt_zero]
  | insert t S ht ih => rw [Finset.sum_insert ht, ih, Finset.card_insert_of_notMem ht, tallyAt_add, Nat.add_comm]

variable {Val : EltTy → Type} {U : Type} [URA U]

local notation "𝕄" => MT nD τ sig ℕ Val ℕ U ℕ

theorem cred_add_eq (O O' : CellTallies nD τ sig ℕ) : (cred (O + O') : sProp 𝕄) = iprop(cred O ∗ cred O') :=
  BI.Entails.antisymm (cred_add _ _).1 (cred_add _ _).2
theorem cred_sum_eq {T : Type} [Fintype T] (f : T → CellTallies nD τ sig ℕ) : (cred (∑ t, f t) : sProp 𝕄) = bigSep Finset.univ fun t => cred (f t) := by
  classical
  suffices h : ∀ S : Finset T, (cred (∑ t ∈ S, f t) : sProp 𝕄) = bigSep S fun t => cred (f t) from h _
  intro S
  induction S using Finset.induction_on with
  | empty => rw [Finset.sum_empty, cred_zero, bigSep_empty]; rfl
  | insert t S ht ih => rw [Finset.sum_insert ht, cred_add_eq, ih, bigSep_insert ht]; rfl

end Tally

/-! ## Separating conjunctions -/

section Sep
variable {M : Type} [URA M] {n : ℕ}

/-- The indices from `k` on, and those before `k`. -/
def geS (n k : ℕ) : Finset (Fin n) := Finset.univ.filter fun j => k ≤ j.val
def ltS (n k : ℕ) : Finset (Fin n) := Finset.univ.filter fun j => j.val < k

theorem geS_zero : geS n 0 = Finset.univ := Finset.filter_true_of_mem fun _ _ => Nat.zero_le _
theorem geS_end {k : ℕ} (h : n ≤ k) : geS n k = ∅ := Finset.filter_false_of_mem fun j _ => by have := j.isLt; omega
theorem ltS_zero : ltS n 0 = ∅ := Finset.filter_false_of_mem fun _ _ => Nat.not_lt_zero _
theorem ltS_end {k : ℕ} (h : n ≤ k) : ltS n k = Finset.univ := Finset.filter_true_of_mem fun j _ => by have := j.isLt; omega

theorem bigSep_ge_peel (k : Fin n) (Φ : Fin n → sProp M) : bigSep (geS n k.val) Φ = iprop(Φ k ∗ bigSep (geS n (k.val + 1)) Φ) := by
  have h : geS n k.val = insert k (geS n (k.val + 1)) := by
    ext j
    simp only [geS, Finset.mem_filter, Finset.mem_univ, true_and, Finset.mem_insert, Fin.ext_iff]
    omega
  rw [h, bigSep_insert (by simp [geS])]; rfl
theorem bigSep_lt_push (k : Fin n) (Φ : Fin n → sProp M) : bigSep (ltS n (k.val + 1)) Φ = iprop(Φ k ∗ bigSep (ltS n k.val) Φ) := by
  have h : ltS n (k.val + 1) = insert k (ltS n k.val) := by
    ext j
    simp only [ltS, Finset.mem_filter, Finset.mem_univ, true_and, Finset.mem_insert, Fin.ext_iff]
    omega
  rw [h, bigSep_insert (by simp [ltS])]; rfl

/-- A conjunction in which one index alone has something. -/
theorem bigSep_only {T : Type} [Fintype T] [DecidableEq T] (t : T) (P : T → sProp M) :
    (P t : sProp M) ⊢ bigSep Finset.univ fun t' => if t' = t then P t' else iprop(emp) := by
  have h : (bigSep (Finset.univ.erase t) fun t' => if t' = t then P t' else iprop(emp)) = (iprop(emp) : sProp M) :=
    (bigSep_congr fun t' h => if_neg (Finset.ne_of_mem_erase h)).trans (bigSep_emp_const _)
  rw [bigSep_univ_at _ t, if_pos rfl, h]
  iintro H
  isplitl; · iexact H
  iempintro

theorem bigSep_with {T : Type} [DecidableEq T] {S : Finset T} {R : sProp M} [BI.Persistent R] {Φ Ψ : T → sProp M}
    (h : ∀ t ∈ S, iprop(R ∗ Φ t) ⊢ Ψ t) : iprop(R ∗ bigSep S Φ) ⊢ bigSep S Ψ :=
  (sep_mono_left (BI.bigSep_of_persistent S R)).trans (by rw [← bigSep_sep']; exact bigSep_mono h)

end Sep

end Cert.Util

end
-- ==== Proof.IdealSched.lean ====
/-
The cells, contents and round schedule of the expert-parallel kernel's ring, for any float values.

Every device runs the same program. It signals every device's barrier cell once and waits for all 32 units on its own;
it sends its histogram to every other device's table of histograms; then, in 31 hops, it passes the block of expert
weights it holds to the next device of the ring, between the two slots of its communication buffer, and from the second
hop on it does so only after the next device has given it a unit of credit.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.ShareLeaves
public import Idealize.ShloMosaic.Lib.ValueIdxCore
public import Idealize.ShloMosaic.Lib.Tactic

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

/-! ## The resource algebra -/

abbrev UB : Type := URounds (GSem nD τ sig) (Dev nD)
abbrev UU : Type := UR sig nD τ × UB

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The ring -/

set_option backward.proofsInPublic true in
/-- The next device of the ring. -/
def nxt (c : Dev nD) : Dev nD := ⟨(c.val + 1) % 32, Nat.mod_lt _ (by decide)⟩
set_option backward.proofsInPublic true in
/-- The device before. -/
def prv (c : Dev nD) : Dev nD := ⟨(c.val + 31) % 32, Nat.mod_lt _ (by decide)⟩
set_option backward.proofsInPublic true in
/-- The device `h` places back: whose weights device `c` holds after `h` hops. -/
def org (c : Dev nD) (h : ℕ) : Dev nD := ⟨(c.val + 31 * h) % 32, Nat.mod_lt _ (by decide)⟩

theorem prv_nxt (c : Dev nD) : prv (nxt c) = c := Fin.ext (by have : c.val < 32 := c.isLt; show ((c.val + 1) % 32 + 31) % 32 = c.val; omega)
theorem nxt_prv (c : Dev nD) : nxt (prv c) = c := Fin.ext (by have : c.val < 32 := c.isLt; show ((c.val + 31) % 32 + 1) % 32 = c.val; omega)
theorem org_zero (c : Dev nD) : org c 0 = c := Fin.ext (by have : c.val < 32 := c.isLt; show (c.val + 31 * 0) % 32 = c.val; omega)
theorem org_nxt (c : Dev nD) (h : ℕ) : org (nxt c) (h + 1) = org c h :=
  Fin.ext (by show ((c.val + 1) % 32 + 31 * (h + 1)) % 32 = (c.val + 31 * h) % 32; omega)

/-- The ring's rotation. -/
def ring : Dev nD ≃ Dev nD := ⟨nxt, prv, prv_nxt, nxt_prv⟩

set_option backward.proofsInPublic true in
/-- The slot of the communication buffer of parity `h`. -/
def par (h : ℕ) : Fin 2 := ⟨h % 2, Nat.mod_lt _ (by decide)⟩

/-! ## The memrefs and cells -/

abbrev xM : Memref sig .tc .vmem S1024x512 .bf16 := Memref.whole cc0_stg0_0
abbrev rM : Memref sig .tc .vmem S1024x1 .i32 := Memref.whole cc0_stg1_0
abbrev eM : Memref sig .tc .vmem S4x512x1024 .bf16 := Memref.whole cc0_stg2_0
abbrev oM : Memref sig .tc .vmem S1024x1024 .f32 := Memref.whole cc0_stg3_0
abbrev cM : Memref sig .tc .vmem S2x4x512x1024 .bf16 := Memref.whole cc0_scratch0
abbrev bM : Memref sig .tc .vmem S1024x512 .bf16 := Memref.whole cc0_scratch1
abbrev hM : Memref sig .tc .vmem S1x128 .i32 := Memref.whole cc0_scratch2
abbrev aM : Memref sig .tc .vmem S32x128 .i32 := Memref.whole cc0_scratch3

theorem slot_inb (s : Fin 2) : ∀ a, (![s.val, 0, 0, 0] : Fin 4 → Nat) a + S1x4x512x1024.size a ≤ S2x4x512x1024.size a := by
  revert s; decide
theorem row_inb (j : Dev nD) : ∀ a, (![j.val, 0] : Fin 2 → Nat) a + S1x128.size a ≤ S32x128.size a := by
  revert j; decide

abbrev slotR (s : Fin 2) : Rect S2x4x512x1024 := Rect.unit (s := S2x4x512x1024) ![s.val, 0, 0, 0] S1x4x512x1024.size (slot_inb s)
abbrev rowR (j : Dev nD) : Rect S32x128 := Rect.unit (s := S32x128) ![j.val, 0] S1x128.size (row_inb j)

/-- Slot `s` of the communication buffer. -/
def slotM (s : Fin 2) : Memref sig .tc .vmem S4x512x1024 .bf16 :=
  ((cM.slice (slotR s) (fun _ => rfl) : Memref sig .tc .vmem S1x4x512x1024 .bf16)).squeeze S4x512x1024 squeezes_S1x4x512x1024_S4x512x1024
/-- Row `j` of the table of histograms. -/
def rowM (j : Dev nD) : Memref sig .tc .vmem S1x128 .i32 := aM.slice (rowR j) (fun _ => rfl)

/-- The elements of a slot and of a row. -/
def slotSet (s : Fin 2) : Finset (cc0_scratch0 : Ref sig .tc).ty.Idx := (slotR s).set
def rowSet (j : Dev nD) : Finset (cc0_scratch3 : Ref sig .tc).ty.Idx := (rowR j).set

theorem slotM_set (s : Fin 2) : (slotM s).view.set = slotSet s := by
  unfold slotM slotSet
  exact (View.set_reshape _ _).trans (View.set_slice_whole _ _)
theorem rowM_set (j : Dev nD) : (rowM j).view.set = rowSet j := View.set_slice_whole _ _

/-- The kernel's own semaphores: the credit, the two slots' send and receive semaphores, the histograms' send and receive
    semaphores by peer; -/
abbrev OK : Type := Unit ⊕ (Fin 2 ⊕ (Fin 2 ⊕ (Fin 32 ⊕ Fin 32)))
/-- and with the runtime's barrier semaphore. -/
abbrev CK : Type := Unit ⊕ OK

abbrev barS : Sem sig := (SemArray.scalar (sig.barrier 0 rfl) : Sems sig S_).sem

def osem : OK → SemLoc sig
  | .inl _ => .reg 0
  | .inr (.inl s) => .dma ⟨4 + s.val, by have := s.isLt; show _ < 72; omega⟩
  | .inr (.inr (.inl s)) => .dma ⟨6 + s.val, by have := s.isLt; show _ < 72; omega⟩
  | .inr (.inr (.inr (.inl j))) => .dma ⟨8 + j.val, by have := j.isLt; show _ < 72; omega⟩
  | .inr (.inr (.inr (.inr j))) => .dma ⟨40 + j.val, by have := j.isLt; show _ < 72; omega⟩
def csem : CK → SemLoc sig
  | .inl _ => .reg barS
  | .inr k => osem k

abbrev kBar : CK := .inl ()
abbrev kCr : CK := .inr (.inl ())
abbrev kSnd (s : Fin 2) : CK := .inr (.inr (.inl s))
abbrev kRcv (s : Fin 2) : CK := .inr (.inr (.inr (.inl s)))
abbrev kHs (j : Dev nD) : CK := .inr (.inr (.inr (.inr (.inl j))))
abbrev kHr (j : Dev nD) : CK := .inr (.inr (.inr (.inr (.inr j))))

/-- Which of them a semaphore is. -/
def kd : SemLoc sig → Option CK
  | .reg s => if s.val = 1 then some kBar else some kCr
  | .dma q =>
    if h4 : q.val < 4 then none
    else if h6 : q.val < 6 then some (kSnd ⟨q.val - 4, by omega⟩)
    else if h8 : q.val < 8 then some (kRcv ⟨q.val - 6, by omega⟩)
    else if h40 : q.val < 40 then some (kHs ⟨q.val - 8, by show _ < 32; omega⟩)
    else some (kHr ⟨q.val - 40, by have : q.val < 72 := q.isLt; show _ < 32; omega⟩)

theorem kd_csem (k : CK) : kd (csem k) = some k := by
  rcases k with _ | _ | s | s | j | j
  · rfl
  · rfl
  · fin_cases s <;> rfl
  · fin_cases s <;> rfl
  · have := j.isLt
    show (if h4 : 8 + j.val < 4 then none else if h6 : 8 + j.val < 6 then some (kSnd ⟨8 + j.val - 4, _⟩) else if h8 : 8 + j.val < 8 then some (kRcv ⟨8 + j.val - 6, _⟩)
      else if h40 : 8 + j.val < 40 then some (kHs ⟨8 + j.val - 8, _⟩) else some (kHr ⟨8 + j.val - 40, _⟩)) = _
    rw [dif_neg (by omega), dif_neg (by omega), dif_neg (by omega), dif_pos (by omega)]
    exact congrArg (fun j => some (kHs j)) (Fin.ext (Nat.add_sub_cancel_left _ _))
  · have := j.isLt
    show (if h4 : 40 + j.val < 4 then none else if h6 : 40 + j.val < 6 then some (kSnd ⟨40 + j.val - 4, _⟩) else if h8 : 40 + j.val < 8 then some (kRcv ⟨40 + j.val - 6, _⟩)
      else if h40 : 40 + j.val < 40 then some (kHs ⟨40 + j.val - 8, _⟩) else some (kHr ⟨40 + j.val - 40, _⟩)) = _
    rw [dif_neg (by omega), dif_neg (by omega), dif_neg (by omega), dif_neg (by omega)]
    exact congrArg (fun j => some (kHr j)) (Fin.ext (Nat.add_sub_cancel_left _ _))
theorem csem_injective : Function.Injective csem := fun k k' h => Option.some.inj (by rw [← kd_csem, h, kd_csem])

/-- Device `c`'s cell of kind `k`. -/
abbrev cell (c : Dev nD) (k : CK) : GSem nD τ sig := ((c : Thread nD τ), csem k)
abbrev kcell (ck : Dev nD × CK) : GSem nD τ sig := cell ck.1 ck.2

theorem cell_inj {c c' : Dev nD} {k k' : CK} (h : cell c k = cell c' k') : c = c' ∧ k = k' :=
  ⟨congrArg (fun g : GSem nD τ sig => g.1.1) h, csem_injective (congrArg Prod.snd h)⟩

/-- The credit of one slot's copy and of one histogram's. -/
@[irreducible] def NW : ℕ := (slotM 0).view.dmaCredit
@[irreducible] def NH : ℕ := (hM : Memref sig .tc .vmem S1x128 .i32).view.dmaCredit
theorem NW_pos : 0 < NW := by unfold NW; exact View.dmaCredit_pos _ (by decide)
theorem NH_pos : 0 < NH := by unfold NH; exact View.dmaCredit_pos _ (by decide)

/-! ## Contents -/

/-- The staged blocks of the tokens, the routes and the experts' weights. -/
def xstg (c : Dev nD) : (cc0_stg0_0 : Ref sig .tc).ty.Contents (Elt F) :=
  (win0_0.blk (0 : Fin 1)).view.read (Elt F) ((s₀ m ρ).mem ((c : Thread nD τ).loc main_arg0))
def rstg (c : Dev nD) : (cc0_stg1_0 : Ref sig .tc).ty.Contents (Elt F) :=
  (win0_1.blk (0 : Fin 1)).view.read (Elt F) ((s₀ m ρ).mem ((c : Thread nD τ).loc main_arg2))
def wstg (c : Dev nD) : (cc0_stg2_0 : Ref sig .tc).ty.Contents (Elt F) :=
  (win0_2.blk (0 : Fin 1)).view.read (Elt F) ((s₀ m ρ).mem ((c : Thread nD τ).loc main_arg3))

/-- The histogram of device `c`'s routes. -/
def hist (c : Dev nD) : (cc0_scratch2 : Ref sig .tc).ty.Contents (Elt F) := k0_pay9 (rstg m ρ c)
/-- The table of all histograms. -/
def hbuf : (cc0_scratch3 : Ref sig .tc).ty.Contents (Elt F) := fun i => hist m ρ (i 0) (ix2 (n0 := 1) (n1 := 128) 0 (i 1))
/-- The communication buffer with the weights `w` in either slot. -/
def wbuf (w : (cc0_stg2_0 : Ref sig .tc).ty.Contents (Elt F)) : (cc0_scratch0 : Ref sig .tc).ty.Contents (Elt F) :=
  fun i => w (ix3 (n0 := 4) (n1 := 512) (n2 := 1024) (i 1) (i 2) (i 3))

abbrev cLoc (c : Dev nD) : Loc nD τ sig := (c : Thread nD τ).loc cc0_scratch0
abbrev bLoc (c : Dev nD) : Loc nD τ sig := (c : Thread nD τ).loc cc0_scratch1
abbrev hLoc (c : Dev nD) : Loc nD τ sig := (c : Thread nD τ).loc cc0_scratch2
abbrev aLoc (c : Dev nD) : Loc nD τ sig := (c : Thread nD τ).loc cc0_scratch3

/-- Device `c`'s slot `s`, its row `j` of the table, and the `j`th of the 32 shares of its own histogram. -/
def slotPts (c : Dev nD) (s : Fin 2) (f : Buf (Elt F) (cLoc c)) : sProp 𝕄 := cLoc c ↦[slotSet s]{fullShare} f
def rowPts (c j : Dev nD) (f : Buf (Elt F) (aLoc c)) : sProp 𝕄 := aLoc c ↦[rowSet j]{fullShare} f
def histPts (c j : Dev nD) : sProp 𝕄 := hLoc c ↦[Finset.univ]{ShareLeaves.leaf 5 fullShare j} hist m ρ c

omit [FloatOps F] in
instance slotPts_storable (c : Dev nD) (s) (f) : BI.Storable (upEmb : UEmb _ 𝕄) (slotPts (F := F) c s f) := by unfold slotPts; infer_instance
omit [FloatOps F] in
instance rowPts_storable (c j : Dev nD) (f) : BI.Storable (upEmb : UEmb _ 𝕄) (rowPts (F := F) c j f) := by unfold rowPts; infer_instance
instance histPts_storable (c j : Dev nD) : BI.Storable (upEmb : UEmb _ 𝕄) (histPts (F := F) m ρ c j) := by unfold histPts; infer_instance

/-! ## The schedule -/

/-- What device `p`'s unit on device `c`'s barrier cell hands `c`: row `c` of `p`'s table, if `p` is another device; and
    `p`'s second slot, if `p` is the next. -/
def barPay (c p : Dev nD) : sProp 𝕄 :=
  iprop((if p = c then iprop(emp) else iprop(∃ f, rowPts p c f)) ∗ (if p = nxt c then iprop(∃ f, slotPts p 1 f) else iprop(emp)))
/-- The `r`th unit of credit of device `c`, from the next device: that device's slot `r % 2`, and that it has reached
    the round of its receive cell the next copy into that slot pays. -/
def crPay (c : Dev nD) (r : ℕ) : sProp 𝕄 :=
  iprop((∃ f, slotPts (nxt c) (par r) f) ∗ reached ER (cell (nxt c) (kRcv (par r))) ((r + 1) / 2))
/-- The send cell's payloads: the slot back, with what it held; the receive cell's: the slot with the weights received,
    and that the device before has reached the round of its credit cell that the next unit of credit pays. -/
def sndPay (c : Dev nD) (s : Fin 2) (r : ℕ) : sProp 𝕄 := slotPts c s (wbuf (wstg m ρ (org c (2 * r + s.val))))
def rcvPay (c : Dev nD) (s : Fin 2) (r : ℕ) : sProp 𝕄 :=
  iprop(slotPts c s (wbuf (wstg m ρ (org c (2 * r + 2 - s.val)))) ∗ reached ER (cell (prv c) kCr) (2 * r + 1 - s.val))

/-- The duties of each kind of cell by round. -/
def dutiesOf (c : Dev nD) (r : ℕ) : CK → Finset (Dev nD)
  | .inl _ => if r = 0 then Finset.univ else ∅
  | .inr (.inl _) => if r < 30 then {0} else ∅
  | .inr (.inr (.inl s)) => if r < 16 - s.val then {0} else ∅
  | .inr (.inr (.inr (.inl s))) => if r < 15 + s.val then {0} else ∅
  | .inr (.inr (.inr (.inr (.inl j)))) => if r = 0 ∧ j ≠ c then {0} else ∅
  | .inr (.inr (.inr (.inr (.inr j)))) => if r = 0 ∧ j ≠ c then {0} else ∅
def amountOf' : CK → ℕ
  | .inl _ => 1
  | .inr (.inl _) => 1
  | .inr (.inr (.inl _)) => NW
  | .inr (.inr (.inr (.inl _))) => NW
  | .inr (.inr (.inr (.inr _))) => NH
def payloadOf (c : Dev nD) (r : ℕ) (d : Dev nD) : CK → sProp 𝕄
  | .inl _ => barPay c d
  | .inr (.inl _) => crPay c r
  | .inr (.inr (.inl s)) => sndPay m ρ c s r
  | .inr (.inr (.inr (.inl s))) => rcvPay m ρ c s r
  | .inr (.inr (.inr (.inr (.inl j)))) => histPts m ρ c j
  | .inr (.inr (.inr (.inr (.inr j)))) => rowPts c j (hbuf m ρ)

theorem amountOf'_pos (k : CK) : 0 < amountOf' k := by
  rcases k with _ | _ | s | s | j | j
  exacts [Nat.one_pos, Nat.one_pos, NW_pos, NW_pos, NH_pos, NH_pos]

def Rd : Rounds.Schedule (GSem nD τ sig) (Dev nD) 𝕄 where
  duties g r := match kd g.2 with | none => ∅ | some k => dutiesOf g.1.1 r k
  unitless _ := False
  amount g _ _ := match kd g.2 with | none => 1 | some k => amountOf' k
  payload g r d := match kd g.2 with | none => iprop(emp) | some k => payloadOf m ρ g.1.1 r d k
  amount_pos g _ _ _ := by
    show 0 < (match kd g.2 with | none => 1 | some k => amountOf' k)
    split
    · exact Nat.one_pos
    · exact amountOf'_pos _

instance payloadOf_storable (c : Dev nD) (r : ℕ) (d : Dev nD) (k : CK) : BI.Storable (upEmb : UEmb _ 𝕄) (payloadOf m ρ c r d k) := by
  rcases k with _ | _ | s | s | j | j
  · show BI.Storable upEmb (barPay c d); unfold barPay; (repeat' split) <;> infer_instance
  · show BI.Storable upEmb (crPay c r); unfold crPay; infer_instance
  · show BI.Storable upEmb (sndPay m ρ c s r); unfold sndPay; infer_instance
  · show BI.Storable upEmb (rcvPay m ρ c s r); unfold rcvPay; infer_instance
  · show BI.Storable upEmb (histPts m ρ c j); infer_instance
  · show BI.Storable upEmb (rowPts c j (hbuf m ρ)); infer_instance

instance Rd_payload_storable (g : GSem nD τ sig) (r : ℕ) (d : Dev nD) : BI.Storable (upEmb : UEmb _ 𝕄) ((Rd (F := F) m ρ).payload g r d) := by
  show BI.Storable upEmb (match kd g.2 with | none => iprop(emp) | some k => payloadOf m ρ g.1.1 r d k)
  split <;> infer_instance

theorem duties_cell (c : Dev nD) (k : CK) (r : ℕ) : (Rd m ρ).duties (cell c k) r = dutiesOf c r k := by
  show (match kd (csem k) with | none => ∅ | some k => dutiesOf c r k) = _
  rw [kd_csem]
theorem amount_cell (c : Dev nD) (k : CK) (r : ℕ) (d : Dev nD) : (Rd m ρ).amount (cell c k) r d = amountOf' k := by
  show (match kd (csem k) with | none => 1 | some k => amountOf' k) = _
  rw [kd_csem]
theorem payload_cell (c : Dev nD) (k : CK) (r : ℕ) (d : Dev nD) : (Rd m ρ).payload (cell c k) r d = payloadOf m ρ c r d k := by
  show (match kd (csem k) with | none => iprop(emp) | some k => payloadOf m ρ c r d k) = _
  rw [kd_csem]

/-- A round with a single duty expects its amount, and what is left of it untaken is its payload; -/
theorem expect_single (c : Dev nD) (k : CK) (r : ℕ) (h : dutiesOf c r k = {0}) : (Rd m ρ).expect (cell c k) r = amountOf' k := by
  unfold Schedule.expect Schedule.amountOf; rw [duties_cell, h, Finset.sum_singleton, amount_cell]
theorem rest_single (c : Dev nD) (k : CK) (r : ℕ) (h : dutiesOf c r k = {0}) :
    bigSep ((Rd m ρ).duties (cell c k) r \ ∅) (fun d => (Rd m ρ).payload (cell c k) r d) = payloadOf m ρ c r 0 k := by
  rw [Finset.sdiff_empty, duties_cell, h, bigSep_singleton, payload_cell]
/-- the barrier cell's round has all devices' units. -/
theorem expect_bar (c : Dev nD) : (Rd m ρ).expect (cell c kBar) 0 = 32 := by
  unfold Schedule.expect Schedule.amountOf
  rw [duties_cell, show dutiesOf c 0 kBar = Finset.univ from rfl, Finset.sum_congr rfl fun d _ => (amount_cell m ρ c kBar 0 d).trans (show amountOf' kBar = 1 from rfl), Finset.sum_const,
    Finset.card_univ, Fintype.card_fin, smul_eq_mul]; rfl
theorem rest_bar (c : Dev nD) :
    bigSep ((Rd m ρ).duties (cell c kBar) 0 \ ∅) (fun d => (Rd m ρ).payload (cell c kBar) 0 d) = bigSep Finset.univ fun d => barPay c d := by
  rw [Finset.sdiff_empty, duties_cell]
  exact bigSep_congr fun d _ => payload_cell m ρ c kBar 0 d

theorem duties_snd (c : Dev nD) (k : ℕ) (hk : k < 31) : dutiesOf c (k / 2) (kSnd (par k)) = {0} := if_pos (by show k / 2 < 16 - k % 2; omega)
theorem duties_rcv (c : Dev nD) (k : ℕ) (hk : k < 31) : dutiesOf c (k / 2) (kRcv (par (k + 1))) = {0} := if_pos (by show k / 2 < 15 + (k + 1) % 2; omega)
theorem duties_cr (c : Dev nD) (k : ℕ) (hk : k < 30) : dutiesOf c k kCr = {0} := if_pos hk
theorem duties_hs (c j : Dev nD) (h : j ≠ c) : dutiesOf c 0 (kHs j) = {0} := if_pos ⟨rfl, h⟩
theorem duties_hr (c j : Dev nD) (h : j ≠ c) : dutiesOf c 0 (kHr j) = {0} := if_pos ⟨rfl, h⟩

/-- From its last round on a cell has no duties. -/
theorem closed_bar (c : Dev nD) : ∀ r, 1 ≤ r → (Rd m ρ).duties (cell c kBar) r = ∅ := fun r h => by
  rw [duties_cell]; exact if_neg (by omega)
theorem closed_cr (c : Dev nD) : ∀ r, 30 ≤ r → (Rd m ρ).duties (cell c kCr) r = ∅ := fun r h => by
  rw [duties_cell]; exact if_neg (by omega)
theorem closed_snd (c : Dev nD) (s : Fin 2) : ∀ r, 16 - s.val ≤ r → (Rd m ρ).duties (cell c (kSnd s)) r = ∅ := fun r h => by
  rw [duties_cell]; exact if_neg (by omega)
theorem closed_rcv (c : Dev nD) (s : Fin 2) : ∀ r, 15 + s.val ≤ r → (Rd m ρ).duties (cell c (kRcv s)) r = ∅ := fun r h => by
  rw [duties_cell]; exact if_neg (by omega)
theorem closed_hs (c j : Dev nD) : ∀ r, (if j = c then 0 else 1) ≤ r → (Rd m ρ).duties (cell c (kHs j)) r = ∅ := fun r h => by
  rw [duties_cell]; refine if_neg fun h' => ?_
  rw [if_neg h'.2] at h; omega
theorem closed_hr (c j : Dev nD) : ∀ r, (if j = c then 0 else 1) ≤ r → (Rd m ρ).duties (cell c (kHr j)) r = ∅ := fun r h => by
  rw [duties_cell]; refine if_neg fun h' => ?_
  rw [if_neg h'.2] at h; omega

end Cert.KernelIdealProof

end
-- ==== Proof.IdealDues.lean ====
/-
What every device owes at launch and through its loops, and why its waits are allowed: each due and each wait carries a
number, and a device waits only at numbers below all it still owes.
-/
module

public import proofs.«01_k».proof.Proof.IdealSched
public import proofs.«01_k».proof.Proof.Util

@[expose] public section

noncomputable section

namespace Cert.KernelIdealProof

open Cert.KernelIdeal Cert.KernelIdeal.Gen Cert.Util

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SiteBlocks (L lv)

variable {F : FTy → Type} [FloatOps F]

local notation "𝕄" => MT nD τ sig ℕ (Elt F) ℕ UU ℕ

/-! ## The dues -/

abbrev Tal : Type := CellTallies nD τ sig ℕ

/-- One unit on every device's barrier cell; -/
def dBar (j : Dev nD) : Tal := tallyAt (cell j kBar) 1 1
/-- a histogram to every other device; -/
def dHist (c j : Dev nD) : Tal := if j ≠ c then tallyAt (cell j (kHr c)) 2 NH else 0
/-- at each hop a block of weights to the next device, -/
def dRcv (c : Dev nD) (h : Fin 31) : Tal := tallyAt (cell (nxt c) (kRcv (par (h.val + 1)))) (2 * h.val + 3) NW
/-- and, at all hops but the last, a unit of credit to the device before. -/
def dCr (c : Dev nD) (h : Fin 31) : Tal := if h.val < 30 then tallyAt (cell (prv c) kCr) (2 * h.val + 4) 1 else 0

/-- What is owed of each from the `k`th on. -/
def OB (k : ℕ) : Tal := tail k dBar
def OH (c : Dev nD) (k : ℕ) : Tal := tail k (dHist c)
def OR (c : Dev nD) (k : ℕ) : Tal := tail k fun h => dCr c h + dRcv c h
def O₀ (c : Dev nD) : Tal := OR c 0 + OH c 0 + OB 0

theorem OB_peel (k : Fin 32) : OB k.val = OB (k.val + 1) + tallyAt (cell k kBar) 1 1 := tail_peel k dBar
theorem OH_peel (c : Dev nD) (k : Fin 32) : OH c k.val = OH c (k.val + 1) + dHist c k := tail_peel k _
theorem OR_peel (c : Dev nD) (k : Fin 31) : OR c k.val = OR c (k.val + 1) + dCr c k + dRcv c k := (tail_peel k _).trans (add_assoc _ _ _).symm
theorem OB_end : OB 32 = 0 := tail_end (le_refl _) _
theorem OH_end (c : Dev nD) : OH c 32 = 0 := tail_end (le_refl _) _
theorem OR_end (c : Dev nD) : OR c 31 = 0 := tail_end (le_refl _) _

abbrev NN : ℕ := 66

theorem above_dBar (j : Dev nD) : Above NN 0 (dBar j) := above_tally rfl (by decide) (by decide)
theorem above_dHist (c j : Dev nD) {i : ℕ} (hi : i < 2) : Above NN i (dHist c j) := above_ite fun _ => above_tally rfl (by decide) hi
theorem above_dCr (c : Dev nD) (h : Fin 31) {i : ℕ} (hi : i < 2 * h.val + 4) : Above NN i (dCr c h) :=
  above_ite fun hh => above_tally rfl (by show _ < 66; omega) hi
theorem above_dRcv (c : Dev nD) (h : Fin 31) {i : ℕ} (hi : i < 2 * h.val + 3) : Above NN i (dRcv c h) :=
  above_tally rfl (by have := h.isLt; show _ < 66; omega) hi
theorem above_OR (c : Dev nD) (k : ℕ) {i : ℕ} (hi : i < 2 * k + 3) : Above NN i (OR c k) :=
  above_tail _ fun j hj => above_add (above_dCr c j (by omega)) (above_dRcv c j (by omega))
theorem above_OH (c : Dev nD) (k : ℕ) {i : ℕ} (hi : i < 2) : Above NN i (OH c k) := above_tail _ fun j _ => above_dHist c j hi
theorem above_OB (k : ℕ) : Above NN 0 (OB k) := above_tail _ fun j _ => above_dBar j
theorem above_O₀ (c : Dev nD) : Above NN 0 (O₀ c) :=
  above_add (above_add (above_OR c 0 (by decide)) (above_OH c 0 (by decide))) (above_OB 0)

omit [FloatOps F] in
/-- A wait at a number below everything owed is allowed. -/
theorem mayWait {i : ℕ} (hi : i < NN) (c : Dev nD) (s : SemLoc sig) {O : Tal} (h : Above NN i O) :
    (levAts (L NN) lv : sProp 𝕄) ⊢ MayWait (c : Thread nD τ) s i O := SiteBlocks.mayWait_of hi c s O h

/-! ## The credit -/

/-- Device `c`'s own waits' credit: its barrier's 32 units, the others' histograms, the blocks received and the credit. -/
def crdH (c j : Dev nD) : Tal := if j ≠ c then tallyAt (cell c (kHr j)) 2 NH else 0
def crdR (c : Dev nD) (h : Fin 31) : Tal := tallyAt (cell c (kRcv (par (h.val + 1)))) (2 * h.val + 3) NW
def crdC (c : Dev nD) (h : Fin 31) : Tal := if h.val < 30 then tallyAt (cell c kCr) (2 * h.val + 4) 1 else 0
def C₀ (c : Dev nD) : Tal := (∑ h, crdC c h) + (∑ h, crdR c h) + (∑ j, crdH c j) + tallyAt (cell c kBar) 1 32

theorem sum_bar : (∑ _c : Dev nD, OB 0) = ∑ c : Dev nD, (tallyAt (cell c kBar) 1 32 : Tal) := by
  simp only [OB, tail_zero]
  rw [Finset.sum_comm]
  exact Finset.sum_congr rfl fun j _ => (sum_tally_one Finset.univ _ 1).trans (by rw [Finset.card_univ, Fintype.card_fin])
theorem dHist_eq (c j : Dev nD) : dHist c j = crdH j c := by
  unfold dHist crdH
  by_cases h : j = c
  · rw [if_neg (fun h' => h' h), if_neg (fun h' => h' h.symm)]
  · rw [if_pos h, if_pos (Ne.symm h)]
theorem sum_hist : (∑ c, OH c 0) = ∑ c, ∑ j, crdH c j := by
  simp only [OH, tail_zero, dHist_eq]
  rw [Finset.sum_comm]
theorem dRcv_eq (c : Dev nD) (h : Fin 31) : dRcv c h = crdR (nxt c) h := rfl
theorem dCr_eq (c : Dev nD) (h : Fin 31) : dCr c h = crdC (prv c) h := rfl
theorem sum_nxt (f : Dev nD → Tal) : (∑ c, f (nxt c)) = ∑ c, f c := Equiv.sum_comp ring f
theorem sum_prv (f : Dev nD → Tal) : (∑ c, f (prv c)) = ∑ c, f c := Equiv.sum_comp ring.symm f
theorem sum_ring : (∑ c, OR c 0) = ∑ c, ((∑ h, crdC c h) + ∑ h, crdR c h) := by
  simp only [OR, tail_zero, Finset.sum_add_distrib, dRcv_eq, dCr_eq]
  rw [sum_prv fun c => ∑ h, crdC c h, sum_nxt fun c => ∑ h, crdR c h]

theorem sum_owed : (∑ c, O₀ c) = ∑ c, C₀ c := by
  unfold O₀ C₀
  simp only [Finset.sum_add_distrib, sum_bar, sum_hist, sum_ring]

theorem C₀_own (c : Dev nD) (g : GSem nD τ sig) (hg : C₀ c g ≠ 0) : g.1 = (c.tc : Thread nD τ) := by
  by_contra hn
  have ht (k : CK) (i n : ℕ) : (tallyAt (cell c k) i n : Tal) g = 0 := tallyAt_ne_cell (fun h => hn (congrArg Prod.fst h)) i n
  refine hg ?_
  unfold C₀ crdH crdR crdC
  rw [Pi.add_apply, Pi.add_apply, Pi.add_apply, Finset.sum_apply, Finset.sum_apply, Finset.sum_apply, ht,
    Finset.sum_eq_zero, Finset.sum_eq_zero, Finset.sum_eq_zero, add_zero, add_zero, add_zero]
  · intro j _; split
    · exact ht _ _ _
    · rfl
  · intro h _; exact ht _ _ _
  · intro h _; split
    · exact ht _ _ _
    · rfl

omit [FloatOps F] in
/-- The launch deals every device its waits' credit. -/
theorem creds (c : Dev nD) : (Pipeline.launchCred O₀ c : sProp 𝕄)
    = iprop((((bigSep Finset.univ fun h => cred (crdC c h)) ∗ bigSep Finset.univ fun h => cred (crdR c h)) ∗ bigSep Finset.univ fun j => cred (crdH c j))
        ∗ cred (tallyAt (cell c kBar) 1 32)) := by
  rw [Pipeline.launchCred_of_sum O₀ C₀ sum_owed C₀_own c]
  unfold C₀
  rw [cred_add_eq, cred_add_eq, cred_add_eq, cred_sum_eq, cred_sum_eq, cred_sum_eq]

end Cert.KernelIdealProof

end
-- ==== Proof.IdealOps.lean ====
/-
The kernel's waits, signals and copies as rules over its cells: one for a wait for a cell's round, one for a histogram's
copy to another device, one for a block of weights' copy to the next device, one for a signal.
-/
module

public import proofs.«01_k».proof.Proof.IdealDues

@[expose] public section

noncomputable section

namespace Cert.KernelIdealProof

open Cert.KernelIdeal Cert.KernelIdeal.Gen Cert.Util

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.SiteBlocks (L lv)

variable {F : FTy → Type} [FloatOps F]

local notation "𝕄" => MT nD τ sig ℕ (Elt F) ℕ UU ℕ

variable (m : (ℓ : Loc nD τ sig) → Buf (Elt F) ℓ) (ρ : Dev nD → PrngReg)

abbrev 𝒱₀ : Variants := Variants.none

/-- The run's weakest precondition on device `c`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

theorem WP_ret (c : Dev nD) {α : Type} (a : α) (Q : α → sProp 𝕄) : WP c (.ret a) Q = iprop(|={Set.univ}=> Q a) := wp_ret _ _ _ _ _

theorem WP_bind (c : Dev nD) {α β : Type} (p : Prog (TpuEff nD τ sig (Elt F) Λ₀ .tc) α) (k : α → Prog (TpuEff nD τ sig (Elt F) Λ₀ .tc) β) (Q : β → sProp 𝕄) :
    WP c (p >>= k) Q = WP c p fun a => WP c (k a) Q := by unfold WP; rw [wp_bind]

/-- A step taken under a condition, ahead of the rest of the program. -/
theorem dite_step {C : Prop} [Decidable C] {α : Type} (e : C → TpuEff nD τ sig (Elt F) Λ₀ .tc PUnit) (X : Prog (TpuEff nD τ sig (Elt F) Λ₀ .tc) α) :
    (if h : C then Prog.op (e h) (fun _ => X) else X) = (if h : C then Prog.op (e h) (fun _ => Prog.ret PUnit.unit) else Prog.ret PUnit.unit) >>= fun _ => X := by
  by_cases h : C
  · rw [dif_pos h, dif_pos h]; rfl
  · rw [dif_neg h, dif_neg h]; rfl

theorem pay_bar (c : Dev nD) (r : ℕ) (d : Dev nD) : payloadOf m ρ c r d kBar = barPay c d := rfl
theorem pay_cr (c : Dev nD) (r : ℕ) (d : Dev nD) : payloadOf m ρ c r d kCr = crPay c r := rfl
theorem pay_snd (c : Dev nD) (s : Fin 2) (r : ℕ) (d : Dev nD) : payloadOf m ρ c r d (kSnd s) = sndPay m ρ c s r := rfl
theorem pay_rcv (c : Dev nD) (s : Fin 2) (r : ℕ) (d : Dev nD) : payloadOf m ρ c r d (kRcv s) = rcvPay m ρ c s r := rfl
theorem pay_hs (c j : Dev nD) (r : ℕ) (d : Dev nD) : payloadOf m ρ c r d (kHs j) = histPts m ρ c j := rfl
theorem pay_hr (c j : Dev nD) (r : ℕ) (d : Dev nD) : payloadOf m ρ c r d (kHr j) = rowPts c j (hbuf m ρ) := rfl

/-! ## What the program's offsets, devices and conditions are -/

theorem trips1 : k0_t1_loop.trips = 32 := by decide +kernel
theorem trips2 : k0_t2_loop.trips = 32 := by decide +kernel
theorem trips3 : k0_t3_loop.trips = 32 := by decide +kernel
theorem trips4 : k0_t4_loop.trips = 32 := by decide +kernel
theorem trips5 : k0_t5_loop.trips = 31 := by decide +kernel
theorem cond1_iff : ∀ (d : Dev nD) (t : Fin k0_t2_loop.trips), k0_cond1 d t = 1#1 ↔ t.val ≠ d.val := by decide +kernel
theorem cond2_iff : ∀ (d : Dev nD) (t : Fin k0_t3_loop.trips), k0_cond2 d t = 1#1 ↔ t.val ≠ d.val := by decide +kernel
theorem cond3_iff : ∀ (d : Dev nD) (t : Fin k0_t4_loop.trips), k0_cond3 d t = 1#1 ↔ t.val ≠ d.val := by decide +kernel
theorem cond5_iff : ∀ t : Fin k0_t5_loop.trips, k0_cond5 t = 1#1 ↔ t.val < 30 := by decide +kernel
theorem cond4_iff : ∀ t : Fin k0_t5_loop.trips,
    Scalar.cmpi .ne (Scalar.extui (Scalar.cmpi .sge (Scf.iv 1#32 1#32 t) 2#32) : BitVec 32) 0#32 = 1#1 ↔ 1 ≤ t.val := by decide +kernel

theorem snd_sem (s : Fin 2) {off : Fin 1 → ℕ} (h : off = ![s.val]) (inb) :
    SemLoc.dma (((cc0_scratch4 : DmaSems sig S2).slice (Rect.unit (s := S2) off S1.size inb)).squeeze S_ squeezes_S1_S_).sem = csem (kSnd s) := by
  subst h; revert s; decide +kernel
theorem rcv_sem (s : Fin 2) {off : Fin 1 → ℕ} (h : off = ![s.val]) (inb) :
    SemLoc.dma (((cc0_scratch5 : DmaSems sig S2).slice (Rect.unit (s := S2) off S1.size inb)).squeeze S_ squeezes_S1_S_).sem = csem (kRcv s) := by
  subst h; revert s; decide +kernel
theorem hs_sem (j : Dev nD) {off : Fin 1 → ℕ} (h : off = ![j.val]) (inb) :
    SemLoc.dma (((cc0_scratch6 : DmaSems sig S32).slice (Rect.unit (s := S32) off S1.size inb)).squeeze S_ squeezes_S1_S_).sem = csem (kHs j) := by
  subst h; revert j; decide +kernel
theorem hr_sem (j : Dev nD) {off : Fin 1 → ℕ} (h : off = ![j.val]) (inb) :
    SemLoc.dma (((cc0_scratch7 : DmaSems sig S32).slice (Rect.unit (s := S32) off S1.size inb)).squeeze S_ squeezes_S1_S_).sem = csem (kHr j) := by
  subst h; revert j; decide +kernel
theorem cr_sem : SemLoc.reg (cc0_scratch8 : Sems sig S_).sem = csem kCr := by decide +kernel

theorem row_mem (j : Dev nD) {off : Fin 2 → ℕ} (h : off = ![j.val, 0]) (inb) :
    (aM.slice (Rect.unit (s := S32x128) off S1x128.size inb) (fun _ => rfl) : Memref sig .tc .vmem S1x128 .i32) = rowM j := by
  subst h; rfl
theorem slot_mem (s : Fin 2) {off : Fin 4 → ℕ} (h : off = ![s.val, 0, 0, 0]) (inb) :
    ((cM.slice (Rect.unit (s := S2x4x512x1024) off S1x4x512x1024.size inb) (fun _ => rfl) : Memref sig .tc .vmem S1x4x512x1024 .bf16)).squeeze
      S4x512x1024 squeezes_S1x4x512x1024_S4x512x1024 = slotM s := by
  subst h; rfl

theorem credit_row (j : Dev nD) : (rowM j).view.dmaCredit = NH := by
  unfold NH
  have h : ∀ j, (rowM j).view.dmaCredit = (hM : Memref sig .tc .vmem S1x128 .i32).view.dmaCredit := by decide +kernel
  exact h j
theorem credit_hist : (hM : Memref sig .tc .vmem S1x128 .i32).view.dmaCredit = NH := by unfold NH; rfl
theorem credit_slot (s : Fin 2) : (slotM s).view.dmaCredit = NW := by unfold NW; rfl

/-! ## What every device knows -/

/-- The cells' invariants, that all are at round 0 at least, and the levels. -/
def recs (K : Dev nD × CK → ℕ) : sProp 𝕄 :=
  iprop((bigSep Finset.univ fun ck : Dev nD × CK => cellInv ER (Rd m ρ) (K ck) (kcell ck))
    ∗ (bigSep Finset.univ fun ck : Dev nD × CK => reached ER (kcell ck) 0) ∗ levAts (L NN) lv)

instance recs_persistent (K : Dev nD × CK → ℕ) : BI.Persistent (recs (F := F) m ρ K) := by unfold recs; infer_instance

variable (K : Dev nD × CK → ℕ)

theorem recs_inv (c : Dev nD) (k : CK) : recs (F := F) m ρ K ⊢ cellInv ER (Rd m ρ) (K (c, k)) (cell c k) := by
  classical
  have h : (bigSep Finset.univ fun ck : Dev nD × CK => (cellInv ER (Rd m ρ) (K ck) (kcell ck) : sProp 𝕄)) ⊢ cellInv ER (Rd m ρ) (K (c, k)) (kcell (c, k)) :=
    bigSep_elim (Finset.mem_univ (c, k))
  unfold recs
  iintro ⟨H, -, -⟩
  iapply h
  iexact H
theorem recs_reached (c : Dev nD) (k : CK) : recs (F := F) m ρ K ⊢ reached ER (cell c k) 0 := by
  classical
  have h : (bigSep Finset.univ fun ck : Dev nD × CK => (reached ER (kcell ck) 0 : sProp 𝕄)) ⊢ reached ER (kcell (c, k)) 0 :=
    bigSep_elim (Finset.mem_univ (c, k))
  unfold recs
  iintro ⟨-, H, -⟩
  iapply h
  iexact H
theorem recs_mayWait {i : ℕ} (hi : i < NN) (c : Dev nD) (k : CK) {O : Tal} (hO : Above NN i O) :
    recs (F := F) m ρ K ⊢ MayWait (c : Thread nD τ) (csem k) i O := by
  have h := mayWait (F := F) hi c (csem k) hO
  unfold recs
  iintro ⟨-, -, H⟩
  iapply h
  iexact H

/-- A device's dues, whatever it has waited for. -/
def owed (c : Dev nD) (O : Tal) : sProp 𝕄 := iprop(∃ W, owes (c : Thread nD τ) O W)

/-! ## The rules -/

/-- A wait for the one payment of a cell's round: the round's payload, and the next round. -/
theorem wp_wait_cell (c : Dev nD) (k : CK) (r i : ℕ) (hi : i < NN) (hd : dutiesOf c r k = {0}) {O : Tal} (hO : Above NN i O)
    {w : TpuEff nD τ sig (Elt F) Λ₀ .tc PUnit}
    (hw : ∀ Q : PUnit → sProp 𝕄, wpE (defs₀ (F := F)) 𝒱₀ (c : Thread nD τ) none Set.univ w Q = waitSpec (c : Thread nD τ) Set.univ (csem k) (amountOf' k) Q)
    {α : Type} {Q : α → sProp 𝕄} {kk : PUnit → Prog (TpuEff nD τ sig (Elt F) Λ₀ .tc) α} :
    iprop(recs m ρ K ∗ cred (tallyAt (cell c k) i (amountOf' k)) ∗ owed c O ∗ atPos ER (cell c k) r ∅ 0)
      ⊢ iprop(((owed c O ∗ atPos ER (cell c k) (r + 1) ∅ 0 ∗ reached ER (cell c k) (r + 1) ∗ payloadOf m ρ c r 0 k) -∗ WP c (kk ⟨⟩) Q)
          -∗ WP c (.op w kk) Q) := by
  unfold owed
  iintro ⟨#HR, Hc, ⟨%W, HO⟩, Hat⟩ Hk
  iapply (Rounds.wp_wait_rest_token 𝒱₀ ER (Rd m ρ) (c : Thread nD τ) none (κ := K (c, k)) hw (Set.mem_univ _) i (O := O) (W := W) (R := r) (m := 0) (T := ∅)
      (by rw [Nat.zero_add, expect_single m ρ c k r hd])) $$ [Hc HO Hat]
  · isplitr; · iapply (recs_inv m ρ K c k); iexact HR
    isplitl [Hc]; · iexact Hc
    isplitl [HO]; · iexact HO
    isplitr; · iapply (recs_mayWait m ρ K hi c k hO); iexact HR
    iexact Hat
  iintro ⟨HO, Hat, Hr, Hp⟩
  ihave Hp := (Entails.of_eq (rest_single m ρ c k r hd)) $$ Hp
  iapply Hk
  isplitl [HO]; · iexists _; iexact HO
  isplitl [Hat]; · iexact Hat
  isplitl [Hr] <;> iassumption

/-- A cell at its last round is closed: its counter is zero. -/
theorem close_cell (c : Dev nD) (k : CK) {r : ℕ} (h : ∀ r', r ≤ r' → (Rd m ρ).duties (cell c k) r' = ∅) :
    iprop(recs m ρ K ∗ atPos ER (cell c k) r ∅ 0) ⊢ iprop(|={Set.univ}=> semVal (cell c k) 0 : sProp 𝕄) := by
  iintro ⟨#HR, Hat⟩
  iapply (Rounds.cell_close ER (Rd m ρ) (Set.mem_univ (K (c, k))) (fun h => h) (R := r) h)
  isplitr; · iapply (recs_inv m ρ K c k); iexact HR
  iexact Hat

/-- A signal that pays duty `d` of round `r` of a regular semaphore's cell. -/
theorem wp_signal_cell (c n p : Dev nD) (hn : n = p) (k : CK) (s : Sem sig) (hs : SemLoc.reg s = csem k) (r i : ℕ) (d : Dev nD) (hd : d ∈ dutiesOf p r k) (h1 : amountOf' k = 1)
    (O : Tal) {α : Type} {Q : α → sProp 𝕄} {kk : PUnit → Prog (TpuEff nD τ sig (Elt F) Λ₀ .tc) α} :
    iprop(recs m ρ K ∗ owed c (O + tallyAt (cell p k) i 1) ∗ dutyTok ER (cell p k) r d ∗ payloadOf m ρ p r d k ∗ reached ER (cell p k) r)
      ⊢ iprop((owed c O -∗ WP c (kk ⟨⟩) Q) -∗ WP c (.op (.semSignal (n : Thread nD τ) s 1) kk) Q) := by
  subst hn
  unfold owed
  iintro ⟨#HR, ⟨%W, HO⟩, Ht, Hp, Hr⟩ Hk
  ihave #HI := (recs_inv m ρ K n k) $$ HR
  rw [show cell n k = ((n : Thread nD τ), SemLoc.reg s) from by rw [cell, hs]]
  iapply (Rounds.wp_signal 𝒱₀ ER (Rd m ρ) (c : Thread nD τ) none (dst := (n : Thread nD τ)) (sem := s) (κ := K (n, k)) (r := r) (d := d)
      (by rw [hs, duties_cell m ρ n k]; exact hd) (by rw [hs, amount_cell m ρ n k, h1]) i O rfl) $$ [HO Ht Hp Hr]
  · isplitr; · iexact HI
    isplitl [HO]; · iexact HO
    isplitl [Ht]; · iexact Ht
    isplitl [Hp]
    · rw [hs, payload_cell m ρ n k]; iexact Hp
    iexact Hr
  iintro HO
  iapply Hk
  iexists _; iexact HO

/-- What a copied histogram leaves of a row of the table. -/
theorem row_written (j c : Dev nD) (fd : Buf (Elt F) (aLoc j)) :
    ((rowM c).view.loc (j : Thread nD τ) ↦[(rowM c).view.set]{fullShare} ((rowM c).view.write (Elt F) fd ((hM : Memref sig .tc .vmem S1x128 .i32).view.read (Elt F) (hist m ρ c)) Finset.univ) : sProp 𝕄)
      = rowPts j c (hbuf m ρ) := by
  unfold rowPts
  rw [← rowM_set]
  refine pointsTo_congr fun i hi => ?_
  obtain ⟨x, -, rfl⟩ := Finset.mem_map.mp hi
  refine (View.write_emb_of_mem _ _ (Finset.mem_univ _)).trans ?_
  have e : ((rowM c).view.emb x : S32x128.Idx) = ix2 c ((x : S1x128.Idx) 1) := by
    funext a
    refine Fin.ext ?_
    have : ((x : S1x128.Idx) 0).val = 0 := Nat.lt_one_iff.mp ((x : S1x128.Idx) 0).isLt
    fin_cases a
    · show c.val + 1 * ((x : S1x128.Idx) 0).val = c.val
      omega
    · show 0 + 1 * ((x : S1x128.Idx) 1).val = ((x : S1x128.Idx) 1).val
      omega
  refine Eq.trans ?_ (congrArg (hbuf m ρ) e).symm
  show hist m ρ c x = hist m ρ c (ix2 0 ((x : S1x128.Idx) 1))
  refine congrArg _ (funext fun a => Fin.ext ?_)
  fin_cases a
  · exact Nat.lt_one_iff.mp ((x : S1x128.Idx) 0).isLt
  · rfl

/-- What a copied block of weights leaves of a slot. -/
theorem slot_written (n : Dev nD) (s s' : Fin 2) (w : (cc0_stg2_0 : Ref sig .tc).ty.Contents (Elt F)) (fd : Buf (Elt F) (cLoc n)) :
    ((slotM s').view.loc (n : Thread nD τ) ↦[(slotM s').view.set]{fullShare} ((slotM s').view.write (Elt F) fd ((slotM s).view.read (Elt F) (wbuf w)) Finset.univ) : sProp 𝕄)
      = slotPts n s' (wbuf w) := by
  unfold slotPts
  rw [← slotM_set]
  refine pointsTo_congr fun i hi => ?_
  obtain ⟨x, -, rfl⟩ := Finset.mem_map.mp hi
  refine (View.write_emb_of_mem _ _ (Finset.mem_univ _)).trans ?_
  show w _ = w _
  refine congrArg w (funext fun a => Fin.ext ?_)
  fin_cases a <;> rfl

/-- The histogram's copy to another device `j`: the share of it and the row of `j`'s table are handed over. -/
theorem wp_send_hist (c n j : Dev nD) (hn : n = j) (hj : j ≠ c) (sS sR : DmaSem sig) (hS : SemLoc.dma sS = csem (kHs j)) (hR : SemLoc.dma sR = csem (kHr c))
    (dM : Memref sig .tc .vmem S1x128 .i32) (hdM : dM = rowM c) {hsc : (dM : Memref sig (Dev.tc n : Thread nD τ).2.kind .vmem S1x128 .i32).view.ref.isScScratch = false}
    {hsrc : (hM : Memref sig .tc .vmem S1x128 .i32).view.WordExact} {hdst : (dM : Memref sig .tc .vmem S1x128 .i32).view.WordExact}
    {hsem : DmaTarget.Typed .vmem (.dma sR) (.remote (Dev.tc n : Thread nD τ) (dM : Memref sig .tc .vmem S1x128 .i32) (.dma sS) hsc)}
    (O : Tal) {α : Type} {Q : α → sProp 𝕄} {kk : PUnit → Prog (TpuEff nD τ sig (Elt F) Λ₀ .tc) α} :
    iprop(recs m ρ K ∗ histPts m ρ c j ∗ (∃ f, rowPts j c f) ∗ owed c (O + tallyAt (cell j (kHr c)) 2 NH)
        ∗ dutyTok ER (cell c (kHs j)) 0 0 ∗ dutyTok ER (cell j (kHr c)) 0 0)
      ⊢ iprop(((cred (tallyAt (cell c (kHs j)) 0 NH) ∗ owed c O) -∗ WP c (kk ⟨⟩) Q)
          -∗ WP c (.op (.enqueueDma hM (.remote (Dev.tc n : Thread nD τ) dM (.dma sS) hsc) (.dma sR) hsrc hdst hsem) kk) Q) := by
  subst hn hdM
  unfold owed
  iintro ⟨#HR, Hh, ⟨%fd, Hrow⟩, ⟨%W, HO⟩, Ht₁, Ht₂⟩ Hk
  ihave #HI₁ := (recs_inv m ρ K c (kHs n)) $$ HR
  ihave #HI₂ := (recs_inv m ρ K n (kHr c)) $$ HR
  ihave #Hr₁ := (recs_reached m ρ K c (kHs n)) $$ HR
  ihave #Hr₂ := (recs_reached m ρ K n (kHr c)) $$ HR
  have e₁ : cell c (kHs n) = ((c : Thread nD τ), SemLoc.dma sS) := Prod.ext rfl hS.symm
  have e₂ : cell n (kHr c) = ((n : Thread nD τ), SemLoc.dma sR) := Prod.ext rfl hR.symm
  rw [e₁, e₂]
  iapply (Rounds.wp_send_pointsTo 𝒱₀ ER (Rd m ρ) (c : Thread nD τ) none (c' := (n : Thread nD τ)) (sS := .dma sS) (sem := .dma sR) (κ₁ := K (c, kHs n)) (κ₂ := K (n, kHr c))
    (src := hM) (dst := (rowM c : Memref sig (Dev.tc n : Thread nD τ).2.kind .vmem S1x128 .i32)) (q := ShareLeaves.leaf 5 fullShare n) (fs := hist m ρ c) (fd := fd)
    (r₁ := 0) (r₂ := 0) (d₁ := 0) (d₂ := 0)
    (by rw [hS, duties_cell m ρ c (kHs n), duties_hs c n hj]; exact Finset.mem_singleton_self _)
    (by rw [hR, duties_cell m ρ n (kHr c), duties_hr n c hj.symm]; exact Finset.mem_singleton_self _)
    2 0 NH (credit_row c) (by rw [hS]; exact amount_cell m ρ c (kHs n) 0 0) (by rw [hR]; exact amount_cell m ρ n (kHr c) 0 0) O rfl (W := W)
    (by rw [hS, payload_cell m ρ c (kHs n)]; rw [show (hM : Memref sig .tc .vmem S1x128 .i32).view.set = Finset.univ from View.set_whole _]; exact BI.Entails.refl _)
    (by rw [hR, payload_cell m ρ n (kHr c), row_written]; exact BI.Entails.refl _)) $$ [Hh Hrow HO Ht₁ Ht₂]
  · isplitr; · iexact HI₁
    isplitr; · iexact HI₂
    isplitl [Hh]
    · rw [show (hM : Memref sig .tc .vmem S1x128 .i32).view.set = Finset.univ from View.set_whole _]; unfold histPts; iexact Hh
    isplitl [Hrow]; · rw [rowM_set]; unfold rowPts; iexact Hrow
    isplitl [HO]; · iexact HO
    isplitl [Ht₁]; · iexact Ht₁
    isplitr; · iexact Hr₁
    isplitl [Ht₂]; · iexact Ht₂
    iexact Hr₂
  iintro ⟨Hc, HO⟩
  iapply Hk
  isplitl [Hc]; · iexact Hc
  iexists _; iexact HO

/-- The copy of the block of weights device `c` holds at hop `h` to the next device's other slot, with that `c` has
    reached the round of its credit cell that the next unit pays. -/
theorem wp_send_slot (c n : Dev nD) (hn : n = nxt c) (h : ℕ) (hh : h < 31) (sS sR : DmaSem sig) (hS : SemLoc.dma sS = csem (kSnd (par h))) (hR : SemLoc.dma sR = csem (kRcv (par (h + 1))))
    (sM dM : Memref sig .tc .vmem S4x512x1024 .bf16) (hsM : sM = slotM (par h)) (hdM : dM = slotM (par (h + 1)))
    {hsc : (dM : Memref sig (Dev.tc n : Thread nD τ).2.kind .vmem S4x512x1024 .bf16).view.ref.isScScratch = false}
    {hsrc : (sM : Memref sig .tc .vmem S4x512x1024 .bf16).view.WordExact} {hdst : (dM : Memref sig .tc .vmem S4x512x1024 .bf16).view.WordExact}
    {hsem : DmaTarget.Typed .vmem (.dma sR) (.remote (Dev.tc n : Thread nD τ) (dM : Memref sig .tc .vmem S4x512x1024 .bf16) (.dma sS) hsc)}
    (O : Tal) {α : Type} {Q : α → sProp 𝕄} {kk : PUnit → Prog (TpuEff nD τ sig (Elt F) Λ₀ .tc) α} :
    iprop(recs m ρ K ∗ slotPts c (par h) (wbuf (wstg m ρ (org c h))) ∗ (∃ f, slotPts (nxt c) (par (h + 1)) f) ∗ reached ER (cell c kCr) h
        ∗ owed c (O + tallyAt (cell (nxt c) (kRcv (par (h + 1)))) (2 * h + 3) NW)
        ∗ dutyTok ER (cell c (kSnd (par h))) (h / 2) 0 ∗ reached ER (cell c (kSnd (par h))) (h / 2)
        ∗ dutyTok ER (cell (nxt c) (kRcv (par (h + 1)))) (h / 2) 0 ∗ reached ER (cell (nxt c) (kRcv (par (h + 1)))) (h / 2))
      ⊢ iprop(((cred (tallyAt (cell c (kSnd (par h))) 0 NW) ∗ owed c O) -∗ WP c (kk ⟨⟩) Q)
          -∗ WP c (.op (.enqueueDma sM (.remote (Dev.tc n : Thread nD τ) dM (.dma sS) hsc) (.dma sR) hsrc hdst hsem) kk) Q) := by
  subst hn hsM hdM
  unfold owed
  iintro ⟨#HR, Hs, ⟨%fd, Hd⟩, Hrc, ⟨%W, HO⟩, Ht₁, Hr₁, Ht₂, Hr₂⟩ Hk
  ihave #HI₁ := (recs_inv m ρ K c (kSnd (par h))) $$ HR
  ihave #HI₂ := (recs_inv m ρ K (nxt c) (kRcv (par (h + 1)))) $$ HR
  have e₁ : cell c (kSnd (par h)) = ((c : Thread nD τ), SemLoc.dma sS) := Prod.ext rfl hS.symm
  have e₂ : cell (nxt c) (kRcv (par (h + 1))) = ((nxt c : Thread nD τ), SemLoc.dma sR) := Prod.ext rfl hR.symm
  rw [e₁, e₂]
  iapply (Rounds.wp_send_pointsTo_with 𝒱₀ ER (Rd m ρ) (c : Thread nD τ) none (c' := (nxt c : Thread nD τ)) (sS := .dma sS) (sem := .dma sR) (κ₁ := K (c, kSnd (par h))) (κ₂ := K (nxt c, kRcv (par (h + 1))))
    (src := slotM (par h)) (dst := (slotM (par (h + 1)) : Memref sig (Dev.tc (nxt c) : Thread nD τ).2.kind .vmem S4x512x1024 .bf16)) (q := fullShare) (fs := wbuf (wstg m ρ (org c h))) (fd := fd) (F := reached ER (cell c kCr) h)
    (r₁ := h / 2) (r₂ := h / 2) (d₁ := 0) (d₂ := 0)
    (by rw [hS, duties_cell m ρ c (kSnd (par h)), duties_snd c h hh]; exact Finset.mem_singleton_self _)
    (by rw [hR, duties_cell m ρ (nxt c) (kRcv (par (h + 1))), duties_rcv (nxt c) h hh]; exact Finset.mem_singleton_self _)
    (2 * h + 3) 0 NW (credit_slot _) (by rw [hS]; exact amount_cell m ρ c (kSnd (par h)) _ 0) (by rw [hR]; exact amount_cell m ρ (nxt c) (kRcv (par (h + 1))) _ 0) O rfl (W := W)
    (by
      rw [hS, payload_cell m ρ c (kSnd (par h)), slotM_set]
      show slotPts c (par h) _ ⊢ sndPay m ρ c (par h) (h / 2)
      unfold sndPay
      rw [show 2 * (h / 2) + (par h).val = h from by show 2 * (h / 2) + h % 2 = h; omega])
    (by
      rw [hR, payload_cell m ρ (nxt c) (kRcv (par (h + 1))), slot_written]
      show _ ⊢ rcvPay m ρ (nxt c) (par (h + 1)) (h / 2)
      unfold rcvPay
      rw [show 2 * (h / 2) + 2 - (par (h + 1)).val = h + 1 from by show 2 * (h / 2) + 2 - (h + 1) % 2 = h + 1; omega,
        show 2 * (h / 2) + 1 - (par (h + 1)).val = h from by show 2 * (h / 2) + 1 - (h + 1) % 2 = h; omega, org_nxt, prv_nxt])) $$ [Hs Hd Hrc HO Ht₁ Hr₁ Ht₂ Hr₂]
  · isplitr; · iexact HI₁
    isplitr; · iexact HI₂
    isplitl [Hs]; · rw [slotM_set]; unfold slotPts; iexact Hs
    isplitl [Hd Hrc]
    · isplitl [Hd]; · rw [slotM_set]; unfold slotPts; iexact Hd
      iexact Hrc
    isplitl [HO]; · iexact HO
    isplitl [Ht₁]; · iexact Ht₁
    isplitl [Hr₁]; · iexact Hr₁
    isplitl [Ht₂] <;> iassumption
  iintro ⟨Hc, HO⟩
  iapply Hk
  isplitl [Hc]; · iexact Hc
  iexists _; iexact HO

end Cert.KernelIdealProof

end
-- ==== Proof.IdealLoops.lean ====
/-
The kernel's four loops over the devices: the signals to all barrier cells, the histogram's copies to the others, the
waits for the others' histograms, and the waits for the sent ones.
-/
module

public import proofs.«01_k».proof.Proof.IdealOps

@[expose] public section

noncomputable section

namespace Cert.KernelIdealProof

open Cert.KernelIdeal Cert.KernelIdeal.Gen Cert.Util

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig ℕ (Elt F) ℕ UU ℕ

variable (m : (ℓ : Loc nD τ sig) → Buf (Elt F) ℓ) (ρ : Dev nD → PrngReg) (K : Dev nD × CK → ℕ)

/-- A loop over the devices: trip `j` turns `Pre j` into `Post j` and pays what is owed from `A j` down to `A (j + 1)`. -/
theorem wp_each (c : Dev nD) (l : Scf.Loop 32) (hok : Scf.OK l.lb l.ub l.st) (hl : l.trips = 32) (body : Fin l.trips → Unit → Prog (TpuEff nD τ sig (Elt F) Λ₀ .tc) Unit)
    (A : ℕ → Tal) (Pre Post : Dev nD → sProp 𝕄)
    (hstep : ∀ (k : Fin l.trips) (j : Dev nD), k.val = j.val → iprop(recs m ρ K ∗ owed c (A j.val) ∗ Pre j) ⊢ WP c (body k ⟨⟩) fun _ => iprop(owed c (A (j.val + 1)) ∗ Post j))
    {α : Type} {Q : α → sProp 𝕄} {kk : Unit → Prog (TpuEff nD τ sig (Elt F) Λ₀ .tc) α} :
    iprop(recs m ρ K ∗ owed c (A 0) ∗ bigSep Finset.univ Pre)
      ⊢ iprop(((owed c (A 32) ∗ bigSep Finset.univ Post) -∗ WP c (kk ⟨⟩) Q) -∗ WP c (Scf.Loop.for l hok ⟨⟩ body >>= kk) Q) := by
  have hI0 : (iprop(recs m ρ K ∗ owed c (A 0) ∗ bigSep Finset.univ Pre) : sProp 𝕄)
      ⊢ iprop(recs m ρ K ∗ owed c (A 0) ∗ bigSep (geS 32 0) Pre ∗ bigSep (ltS 32 0) Post) := by
    rw [geS_zero, ltS_zero, bigSep_empty]
    iintro ⟨#HR, HO, HP⟩
    isplitr; · iexact HR
    isplitl [HO]; · iexact HO
    isplitl [HP]; · iexact HP
    iempintro
  refine hI0.trans ?_
  have hrule := Scf.wp_for_bind frame (wpE (defs₀ (F := F)) 𝒱₀ (c : Thread nD τ) none) Set.univ l.lb l.ub l.st hok (⟨⟩ : Unit) body
    (fun k _ => iprop(recs m ρ K ∗ owed c (A k) ∗ bigSep (geS 32 k) Pre ∗ bigSep (ltS 32 k) Post)) (fun k acc => by
      have hk : k.val < 32 := lt_of_lt_of_eq k.isLt hl
      have hs := hstep k ⟨k.val, hk⟩ rfl
      have hp := bigSep_ge_peel (M := 𝕄) (⟨k.val, hk⟩ : Fin 32) Pre
      have hq := bigSep_lt_push (M := 𝕄) (⟨k.val, hk⟩ : Fin 32) Post
      simp only at hp hq hs
      rw [hp, hq]
      iintro ⟨#HR, HO, ⟨HP, HPs⟩, HQs⟩
      iapply (wp_wand_r frame (wpE (defs₀ (F := F)) 𝒱₀ (c : Thread nD τ) none) Set.univ)
      isplitl [HO HP]
      · iapply hs
        isplitr; · iexact HR
        isplitl [HO] <;> iassumption
      iintro %_ ⟨HO, HQ⟩
      isplitr; · iexact HR
      isplitl [HO]; · iexact HO
      isplitl [HPs]; · iexact HPs
      isplitl [HQ] <;> iassumption) (kk := kk) (Q := Q)
  refine hrule.trans ?_
  iintro H HK
  iapply H
  iintro %acc ⟨-, HO, -, HQ⟩
  rw [show Scf.trips l.lb l.ub l.st = 32 from hl, ltS_end (le_refl 32)]
  iapply HK
  isplitl [HO] <;> iassumption

/-! ## One trip of each -/

section Trips

variable (h0 : (xM : Memref sig .tc .vmem S1024x512 .bf16).IsWhole) (h1 : (rM : Memref sig .tc .vmem S1024x1 .i32).IsWhole)
  (h2 : (eM : Memref sig .tc .vmem S4x512x1024 .bf16).IsWhole) (h3 : (oM : Memref sig .tc .vmem S1024x1024 .f32).IsWhole)
  (h4 : (cM : Memref sig .tc .vmem S2x4x512x1024 .bf16).IsWhole) (h5 : (bM : Memref sig .tc .vmem S1024x512 .bf16).IsWhole)
  (h6 : (hM : Memref sig .tc .vmem S1x128 .i32).IsWhole) (h7 : (aM : Memref sig .tc .vmem S32x128 .i32).IsWhole)

/-- For the signal to device `j`: the duty on its barrier cell, and what it is to hand over. -/
def pre1 (c j : Dev nD) : sProp 𝕄 := iprop(dutyTok ER (cell j kBar) 0 c ∗ barPay j c)

theorem trip1 (c : Dev nD) (k : Fin k0_t1_loop.trips) (j : Dev nD) (hk : k.val = j.val) (A : Tal) :
    iprop(recs m ρ K ∗ owed c (A + OB j.val) ∗ pre1 c j)
      ⊢ WP c (k0_t1_body (F := F) xM h0 rM h1 eM h2 oM h3 cM h4 bM h5 hM h6 aM h7 cc0_scratch4 cc0_scratch5 cc0_scratch6 cc0_scratch7 cc0_scratch8
          (SemArray.scalar (sig.barrier 0 rfl)) k ⟨⟩) fun _ => iprop(owed c (A + OB (j.val + 1)) ∗ emp) := by
  unfold k0_t1_body pre1
  simp only [semSignalWord, Prog.lift, Prog.bind_op, Prog.bind_ret, Prog.pure_eq_ret]
  rw [OB_peel, ← add_assoc]
  iintro ⟨#HR, HO, Ht, Hp⟩
  iapply (wp_signal_cell m ρ K c _ j (Fin.ext ((k0_dev1_eq k).trans hk)) kBar barS rfl 0 1 c (Finset.mem_univ _) rfl (A + OB (j.val + 1))) $$ [HO Ht Hp]
  · isplitr; · iexact HR
    isplitl [HO]; · iexact HO
    isplitl [Ht]; · iexact Ht
    isplitl [Hp]; · rw [pay_bar]; iexact Hp
    iapply (recs_reached m ρ K j kBar); iexact HR
  iintro HO
  rw [WP_ret]
  imodintro
  isplitl [HO]; · iexact HO
  iempintro

/-- For the copy to device `j`: a share of the histogram, the row of `j`'s table and the two duties. -/
def pre2 (c j : Dev nD) : sProp 𝕄 :=
  iprop(histPts m ρ c j ∗ if c = j then iprop(emp) else iprop((∃ f, rowPts j c f) ∗ dutyTok ER (cell c (kHs j)) 0 0 ∗ dutyTok ER (cell j (kHr c)) 0 0))
/-- After it: the credit of the send cell, or the share where there is no copy. -/
def post2 (c j : Dev nD) : sProp 𝕄 := if c = j then histPts m ρ c j else cred (tallyAt (cell c (kHs j)) 0 NH)

theorem trip2 (c : Dev nD) (k : Fin k0_t2_loop.trips) (j : Dev nD) (hk : k.val = j.val) (A : Tal) :
    iprop(recs m ρ K ∗ owed c (A + OH c j.val) ∗ pre2 m ρ c j)
      ⊢ WP c (k0_t2_body (F := F) xM h0 rM h1 eM h2 oM h3 cM h4 bM h5 hM h6 aM h7 cc0_scratch4 cc0_scratch5 cc0_scratch6 cc0_scratch7 cc0_scratch8 c k ⟨⟩)
          fun _ => iprop(owed c (A + OH c (j.val + 1)) ∗ post2 m ρ c j) := by
  unfold k0_t2_body pre2 post2
  rw [OH_peel, ← add_assoc]
  by_cases hj : c = j
  · rw [dif_neg (by rw [cond1_iff, hk, hj]; exact fun h => h rfl), if_pos hj, if_pos hj, dHist, if_neg (fun h => h hj.symm), add_zero]
    simp only [Prog.pure_eq_ret, Prog.bind_ret, wp_ret]
    iintro ⟨-, HO, Hh, -⟩
    imodintro
    isplitl [HO] <;> iassumption
  · have hc : k0_cond1 c k = 1#1 := (cond1_iff c k).mpr fun h => hj (Fin.ext (h.symm.trans hk))
    rw [dif_pos hc, if_neg hj, if_neg hj, dHist, if_pos (Ne.symm hj)]
    simp only [Prog.lift, Prog.bind_op, Prog.bind_ret, Prog.pure_eq_ret]
    iintro ⟨#HR, HO, Hh, Hr, Ht₁, Ht₂⟩
    iapply (wp_send_hist m ρ K c _ j (Fin.ext ((k0_dev2_eq k).trans hk)) (Ne.symm hj) _ _
      (hs_sem j ((k0_off1_eq k).trans (by rw [hk])) _) (hr_sem c (k0_off2_eq c) _) _ (row_mem c (k0_off3_eq c) _) (A + OH c (j.val + 1))) $$ [Hh Hr HO Ht₁ Ht₂]
    · isplitr; · iexact HR
      isplitl [Hh]; · iexact Hh
      isplitl [Hr]; · iexact Hr
      isplitl [HO]; · iexact HO
      isplitl [Ht₁] <;> iassumption
    iintro ⟨Hc, HO⟩
    rw [WP_ret]
    imodintro
    isplitl [HO] <;> iassumption

/-- For the wait for device `j`'s histogram: the credit, the position; where there is none, the row as it is. -/
def pre3 (c j : Dev nD) : sProp 𝕄 :=
  iprop(atPos ER (cell c (kHr j)) 0 ∅ 0 ∗ if c = j then iprop(∃ f, rowPts c j f) else cred (tallyAt (cell c (kHr j)) 2 NH))
/-- After it: the semaphore at zero, and the row with the histogram. -/
def post3 (c j : Dev nD) : sProp 𝕄 := iprop(semVal (cell c (kHr j)) 0 ∗ ∃ f, ⌜c ≠ j → f = hbuf m ρ⌝ ∗ rowPts c j f)

theorem trip3 (c : Dev nD) (k : Fin k0_t3_loop.trips) (j : Dev nD) (hk : k.val = j.val) :
    iprop(recs m ρ K ∗ owed c (OR c 0) ∗ pre3 c j)
      ⊢ WP c (k0_t3_body (F := F) xM h0 rM h1 eM h2 oM h3 cM h4 bM h5 hM h6 aM h7 cc0_scratch4 cc0_scratch5 cc0_scratch6 cc0_scratch7 cc0_scratch8 c k ⟨⟩)
          fun _ => iprop(owed c (OR c 0) ∗ post3 m ρ c j) := by
  unfold k0_t3_body pre3 post3
  by_cases hj : c = j
  · rw [dif_neg (by rw [cond2_iff, hk, hj]; exact fun h => h rfl), if_pos hj]
    simp only [Prog.pure_eq_ret, Prog.bind_ret, wp_ret]
    iintro ⟨#HR, HO, Hat, ⟨%f, Hf⟩⟩
    imod (close_cell m ρ K c (kHr j) (r := 0) (fun r _ => closed_hr m ρ c j r (by rw [if_pos hj.symm]; exact Nat.zero_le _))) $$ [Hat] with Hz
    · isplitr; · iexact HR
      iexact Hat
    imodintro
    isplitl [HO]; · iexact HO
    isplitl [Hz]; · iexact Hz
    iexists f
    isplitr; · ipureintro; exact fun h => absurd hj h
    iexact Hf
  · have hc : k0_cond2 c k = 1#1 := (cond2_iff c k).mpr fun h => hj (Fin.ext (h.symm.trans hk))
    rw [dif_pos hc, if_neg hj]
    simp only [Prog.lift, Prog.bind_op, Prog.bind_ret, Prog.pure_eq_ret]
    iintro ⟨#HR, HO, Hat, Hc⟩
    iapply (wp_wait_cell m ρ K c (kHr j) 0 2 (by decide) (duties_hr c j (Ne.symm hj)) (above_OR c 0 (by decide)) (fun Q =>
      (wpE_waitDma2_eq 𝒱₀ (c : Thread nD τ) none Set.univ Q).trans (by
        rw [hr_sem j ((k0_off4_eq k).trans (by rw [hk])) _, row_mem j ((k0_off5_eq k).trans (by rw [hk])) _, credit_row]; rfl))) $$ [Hc HO Hat]
    · isplitr; · iexact HR
      isplitl [Hc]; · iexact Hc
      isplitl [HO]; · iexact HO
      iexact Hat
    iintro ⟨HO, Hat, -, Hp⟩
    imod (close_cell m ρ K c (kHr j) (r := 1) (fun r hr => closed_hr m ρ c j r (by rw [if_neg (Ne.symm hj)]; exact hr))) $$ [Hat] with Hz
    · isplitr; · iexact HR
      iexact Hat
    rw [wp_ret]
    imodintro
    isplitl [HO]; · iexact HO
    isplitl [Hz]; · iexact Hz
    iexists hbuf m ρ
    isplitr; · ipureintro; exact fun _ => rfl
    rw [← pay_hr m ρ c j 0 0]; iexact Hp

/-- For the wait for the copy sent to device `j`. -/
def pre4 (c j : Dev nD) : sProp 𝕄 := iprop(atPos ER (cell c (kHs j)) 0 ∅ 0 ∗ post2 m ρ c j)
/-- After it: the semaphore at zero and the histogram's share back. -/
def post4 (c j : Dev nD) : sProp 𝕄 := iprop(semVal (cell c (kHs j)) 0 ∗ histPts m ρ c j)

theorem trip4 (c : Dev nD) (v2 : BitVec 32) (v16 : FVec F S1024x128 .f32) (c0 : BitVec 32) (k : Fin k0_t4_loop.trips) (j : Dev nD) (hk : k.val = j.val) :
    iprop(recs m ρ K ∗ owed c (OR c 0) ∗ pre4 m ρ c j)
      ⊢ WP c (k0_t4_body (F := F) xM h0 rM h1 eM h2 oM h3 cM h4 bM h5 hM h6 aM h7 cc0_scratch4 cc0_scratch5 cc0_scratch6 cc0_scratch7 cc0_scratch8 c v2 v16 c0 k ⟨⟩)
          fun _ => iprop(owed c (OR c 0) ∗ post4 m ρ c j) := by
  unfold k0_t4_body pre4 post4 post2
  by_cases hj : c = j
  · rw [dif_neg (by rw [cond3_iff, hk, hj]; exact fun h => h rfl), if_pos hj]
    simp only [Prog.pure_eq_ret, Prog.bind_ret, wp_ret]
    iintro ⟨#HR, HO, Hat, Hh⟩
    imod (close_cell m ρ K c (kHs j) (r := 0) (fun r _ => closed_hs m ρ c j r (by rw [if_pos hj.symm]; exact Nat.zero_le _))) $$ [Hat] with Hz
    · isplitr; · iexact HR
      iexact Hat
    imodintro
    isplitl [HO]; · iexact HO
    isplitl [Hz] <;> iassumption
  · have hc : k0_cond3 c k = 1#1 := (cond3_iff c k).mpr fun h => hj (Fin.ext (h.symm.trans hk))
    rw [dif_pos hc, if_neg hj]
    simp only [Prog.lift, Prog.bind_op, Prog.bind_ret, Prog.pure_eq_ret]
    iintro ⟨#HR, HO, Hat, Hc⟩
    iapply (wp_wait_cell m ρ K c (kHs j) 0 0 (by decide) (duties_hs c j (Ne.symm hj)) (above_OR c 0 (by decide)) (fun Q =>
      (wpE_waitDma2_eq 𝒱₀ (c : Thread nD τ) none Set.univ Q).trans (by
        rw [hs_sem j ((k0_off6_eq k).trans (by rw [hk])) _, credit_hist]; rfl))) $$ [Hc HO Hat]
    · isplitr; · iexact HR
      isplitl [Hc]; · iexact Hc
      isplitl [HO]; · iexact HO
      iexact Hat
    iintro ⟨HO, Hat, -, Hp⟩
    imod (close_cell m ρ K c (kHs j) (r := 1) (fun r hr => closed_hs m ρ c j r (by rw [if_neg (Ne.symm hj)]; exact hr))) $$ [Hat] with Hz
    · isplitr; · iexact HR
      iexact Hat
    rw [wp_ret]
    imodintro
    isplitl [HO]; · iexact HO
    isplitl [Hz]; · iexact Hz
    rw [← pay_hs m ρ c j 0 0]; iexact Hp

end Trips

end Cert.KernelIdealProof

end
-- ==== Proof.IdealHop.lean ====
/-
One trip of the kernel's ring: the wait for the next device's slot, the weights' copy to it, the waits for that copy and
for the weights received, the unit of credit to the device before, and the product with the weights received.
-/
module

public import proofs.«01_k».proof.Proof.IdealLoops

@[expose] public section

noncomputable section

namespace Cert.KernelIdealProof

open Cert.KernelIdeal Cert.KernelIdeal.Gen Cert.Util

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig ℕ (Elt F) ℕ UU ℕ

variable (m : (ℓ : Loc nD τ sig) → Buf (Elt F) ℓ) (ρ : Dev nD → PrngReg) (K : Dev nD × CK → ℕ)

/-! ## Loads and stores -/

/-- A load from a buffer of which enough is held, -/
theorem wp_load_at (c : Dev nD) {sp : CoreSpace} {s : Shape} {e : EltTy} (M : Memref sig .tc sp s e) (r : LoadRect s) (hl : M.view.LoadsAt r) (S : Finset (M.view.loc (c : Thread nD τ)).ty.Idx) (q : PosShare TreeShare)
    (f : Buf (Elt F) (M.view.loc (c : Thread nD τ))) (v : r.shape.Idx → Elt F e) (hS : M.view.setOn r.set ⊆ S) (hv : M.view.readAt (Elt F) r f = v)
    {α : Type} {Q : α → sProp 𝕄} {kk : (r.shape.Idx → Elt F e) → Prog (TpuEff nD τ sig (Elt F) Λ₀ .tc) α} :
    (M.view.loc (c : Thread nD τ) ↦[S]{q} f : sProp 𝕄) ⊢ iprop(((M.view.loc (c : Thread nD τ) ↦[S]{q} f) -∗ WP c (kk v) Q) -∗ WP c (.op (.load M r hl) kk) Q) := by
  subst hv
  exact wp_load 𝒱₀ (c : Thread nD τ) none Set.univ (m := M) hS

/-- and a store to it. -/
theorem wp_store_at (c : Dev nD) {sp : CoreSpace} {s : Shape} {e : EltTy} (M : Memref sig .tc sp s e) (r : Rect s) (w : r.shape.Idx → Elt F e) (hs : (M.access r).Stores Finset.univ)
    (ha : (Finset.univ : Finset r.shape.Idx) = Finset.univ ∨ ∀ a, r.stride a = 1) (S : Finset ((M.access r).loc (c : Thread nD τ)).ty.Idx)
    (f v : Buf (Elt F) ((M.access r).loc (c : Thread nD τ))) (hS : (M.access r).setOn Finset.univ ⊆ S) (hv : (((M.access r).loc (c : Thread nD τ) ↦[S]{fullShare} ((M.access r).write (Elt F) f w Finset.univ)) : sProp 𝕄) ⊢ ((M.access r).loc (c : Thread nD τ) ↦[S]{fullShare} v))
    {α : Type} {Q : α → sProp 𝕄} {kk : PUnit → Prog (TpuEff nD τ sig (Elt F) Λ₀ .tc) α} :
    ((M.access r).loc (c : Thread nD τ) ↦[S]{fullShare} f : sProp 𝕄)
      ⊢ iprop((((M.access r).loc (c : Thread nD τ) ↦[S]{fullShare} v) -∗ WP c (kk ⟨⟩) Q) -∗ WP c (.op (.store M r w Finset.univ hs ha) kk) Q) := by
  have h : ((M.access r).loc (c : Thread nD τ) ↦[S]{fullShare} f : sProp 𝕄)
      ⊢ iprop((((M.access r).loc (c : Thread nD τ) ↦[S]{fullShare} ((M.access r).write (Elt F) f w Finset.univ)) -∗ WP c (kk ⟨⟩) Q)
        -∗ WP c (.op (.store M r w Finset.univ hs ha) kk) Q) := wp_store 𝒱₀ (c : Thread nD τ) none Set.univ hS
  refine h.trans ?_
  iintro H HK
  iapply H
  iintro H'
  iapply HK
  iapply hv
  iexact H'

/-! ## The values of the ring -/

/-- Weight block `k` of the four, as the kernel loads it. -/
def wsl (w : (cc0_stg2_0 : Ref sig .tc).ty.Contents (Elt F)) (k : Fin 4) : Vec F S1x1x512x1024 .bf16 :=
  fun i => w (ix3 (n0 := 4) (n1 := 512) (n2 := 1024) k ((i : S1x1x512x1024.Idx) 2) ((i : S1x1x512x1024.Idx) 3))

/-- The device's place as the kernel computes it, and the origin of the weights it holds after `n + 1` hops. -/
def meW (c : Dev nD) : BitVec 32 := Scalar.remsi (Scalar.divsi (Dev.word c) 1#32) 32#32
def ivW (n : ℕ) : BitVec 32 := Scf.iv 1#32 1#32 n
def orgW (c : Dev nD) (n : ℕ) : BitVec 32 := Scalar.remsi (Scalar.addi (Scalar.subi (meW c) (ivW n)) 32#32) 32#32

/-- The route's column, the tokens kept, and the tokens' rows. -/
def rtV (c : Dev nD) : IVec S1024x1 32 := k0_pay7 (rstg m ρ c)
def kpV (c : Dev nD) : IVec S1024x1 1 := k0_pay10 (meW c) (k0_pay8 (F := F) (rstg m ρ c)) (hbuf m ρ)
def bxV (c : Dev nD) : Vec F S1024x512 .bf16 := k0_pay11 (xstg m ρ c)

/-- What a device adds for its own weights, expert by expert, -/
def own1 (c : Dev nD) : Vec F S1024x1024 .f32 := k0_pay14 (meW c) (rtV m ρ c) (kpV m ρ c) (bxV m ρ c) (wsl (wstg m ρ c) 0) (k0_pay13 (F := F))
def own2 (c : Dev nD) : Vec F S1024x1024 .f32 := k0_pay15 (meW c) (rtV m ρ c) (kpV m ρ c) (bxV m ρ c) (wsl (wstg m ρ c) 1) (own1 m ρ c)
def own3 (c : Dev nD) : Vec F S1024x1024 .f32 := k0_pay16 (meW c) (rtV m ρ c) (kpV m ρ c) (bxV m ρ c) (wsl (wstg m ρ c) 2) (own2 m ρ c)
def own4 (c : Dev nD) : Vec F S1024x1024 .f32 := k0_pay17 (meW c) (rtV m ρ c) (kpV m ρ c) (bxV m ρ c) (wsl (wstg m ρ c) 3) (own3 m ρ c)

/-- and, at hop `n + 1`, for the weights `w` it has received. -/
def hop1 (c : Dev nD) (n : ℕ) (w : (cc0_stg2_0 : Ref sig .tc).ty.Contents (Elt F)) (a : Vec F S1024x1024 .f32) : Vec F S1024x1024 .f32 :=
  k0_pay2 (meW c) (rtV m ρ c) (kpV m ρ c) (ivW n) (bxV m ρ c) (wsl w 0) a
def hop2 (c : Dev nD) (n : ℕ) (w : (cc0_stg2_0 : Ref sig .tc).ty.Contents (Elt F)) (a : Vec F S1024x1024 .f32) : Vec F S1024x1024 .f32 :=
  k0_pay4 (k0_pay3 (meW c) (rtV m ρ c) (kpV m ρ c) (ivW n) (bxV m ρ c)) (wsl w 1) (hop1 m ρ c n w a)
def hop3 (c : Dev nD) (n : ℕ) (w : (cc0_stg2_0 : Ref sig .tc).ty.Contents (Elt F)) (a : Vec F S1024x1024 .f32) : Vec F S1024x1024 .f32 :=
  k0_pay5 (rtV m ρ c) (kpV m ρ c) (orgW c n) (bxV m ρ c) (wsl w 2) (hop2 m ρ c n w a)
def hop4 (c : Dev nD) (n : ℕ) (w : (cc0_stg2_0 : Ref sig .tc).ty.Contents (Elt F)) (a : Vec F S1024x1024 .f32) : Vec F S1024x1024 .f32 :=
  k0_pay1 (k0_pay6 (rtV m ρ c) (kpV m ρ c) (orgW c n) (bxV m ρ c)) (wsl w 3) (hop3 m ρ c n w a)

/-- The sum after `n` hops. -/
def accV (c : Dev nD) : ℕ → Vec F S1024x1024 .f32
  | 0 => own4 m ρ c
  | n + 1 => hop4 m ρ c n (wstg m ρ (org c (n + 1))) (accV c n)

theorem hz2 : (![0, 0] : Fin 2 → ℕ) = fun _ => 0 := funext fun a => by fin_cases a <;> rfl

theorem slot_sub (s : Fin 2) (k : ℕ) {off : Fin 4 → ℕ} (h : off = ![s.val, k, 0, 0]) (inb : ∀ a, off a + S1x1x512x1024.size a ≤ S2x4x512x1024.size a) :
    (cM : Memref sig .tc .vmem S2x4x512x1024 .bf16).view.setOn (Rect.unit (s := S2x4x512x1024) off S1x1x512x1024.size inb).toLoadRect.set ⊆ slotSet s := by
  subst h
  intro i hi
  obtain ⟨x, hx, rfl⟩ := Finset.mem_map.mp hi
  have hx' := Rect.mem_set_unit.mp hx
  refine Rect.mem_set_unit.mpr fun a => ?_
  have := hx' a
  have hlt := (x a).isLt
  fin_cases a
  · exact this
  · exact ⟨Nat.zero_le _, lt_of_lt_of_eq hlt (Nat.zero_add _).symm⟩
  · exact this
  · exact this

theorem slot_read (s : Fin 2) (k : Fin 4) {off : Fin 4 → ℕ} (h : off = ![s.val, k.val, 0, 0]) (inb : ∀ a, off a + S1x1x512x1024.size a ≤ S2x4x512x1024.size a)
    (w : (cc0_stg2_0 : Ref sig .tc).ty.Contents (Elt F)) :
    (cM : Memref sig .tc .vmem S2x4x512x1024 .bf16).view.readAt (Elt F) (Rect.unit (s := S2x4x512x1024) off S1x1x512x1024.size inb).toLoadRect (wbuf w) = wsl w k := by
  subst h
  funext i
  show w _ = w _
  refine congrArg w (funext fun a => Fin.ext ?_)
  have h1 : ((i : S1x1x512x1024.Idx) 1).val = 0 := Nat.lt_one_iff.mp ((i : S1x1x512x1024.Idx) 1).isLt
  fin_cases a
  · show k.val + 1 * ((i : S1x1x512x1024.Idx) 1).val = k.val
    omega
  · show 0 + 1 * ((i : S1x1x512x1024.Idx) 2).val = ((i : S1x1x512x1024.Idx) 2).val
    omega
  · show 0 + 1 * ((i : S1x1x512x1024.Idx) 3).val = ((i : S1x1x512x1024.Idx) 3).val
    omega

/-- A load of weight block `k` of a slot. -/
theorem wp_load_slot (c : Dev nD) (s : Fin 2) (k : Fin 4) (w : (cc0_stg2_0 : Ref sig .tc).ty.Contents (Elt F)) {off : Fin 4 → ℕ} (h : off = ![s.val, k.val, 0, 0])
    (inb : ∀ a, off a + S1x1x512x1024.size a ≤ S2x4x512x1024.size a)
    (hl : (cM : Memref sig .tc .vmem S2x4x512x1024 .bf16).view.LoadsAt (Rect.unit (s := S2x4x512x1024) off S1x1x512x1024.size inb).toLoadRect)
    {α : Type} {Q : α → sProp 𝕄} {kk : Vec F S1x1x512x1024 .bf16 → Prog (TpuEff nD τ sig (Elt F) Λ₀ .tc) α} :
    (slotPts c s (wbuf w) : sProp 𝕄) ⊢ iprop((slotPts c s (wbuf w) -∗ WP c (kk (wsl w k)) Q)
      -∗ WP c (.op (.load cM (Rect.unit (s := S2x4x512x1024) off S1x1x512x1024.size inb).toLoadRect hl) kk) Q) := by
  unfold slotPts
  exact wp_load_at c cM _ hl _ fullShare (wbuf w) (wsl w k) (slot_sub s k h inb) (slot_read s k h inb w)

/-- The whole of the sum's buffer and of the tokens' rows. -/
def outPts (c : Dev nD) (f : Vec F S1024x1024 .f32) : sProp 𝕄 := ((c : Thread nD τ).loc cc0_stg3_0) ↦{fullShare} f
def rowsPts (c : Dev nD) (f : Vec F S1024x512 .bf16) : sProp 𝕄 := ((c : Thread nD τ).loc cc0_scratch1) ↦{fullShare} f

theorem wp_load_out (c : Dev nD) (f : Vec F S1024x1024 .f32) (inb : ∀ a, (![0, 0] : Fin 2 → ℕ) a + S1024x1024.size a ≤ S1024x1024.size a)
    (hl : (oM : Memref sig .tc .vmem S1024x1024 .f32).view.LoadsAt (Rect.unit (s := S1024x1024) ![0, 0] S1024x1024.size inb).toLoadRect)
    {α : Type} {Q : α → sProp 𝕄} {kk : Vec F S1024x1024 .f32 → Prog (TpuEff nD τ sig (Elt F) Λ₀ .tc) α} :
    (outPts c f : sProp 𝕄) ⊢ iprop((outPts c f -∗ WP c (kk f) Q) -∗ WP c (.op (.load oM (Rect.unit (s := S1024x1024) ![0, 0] S1024x1024.size inb).toLoadRect hl) kk) Q) := by
  unfold outPts
  exact wp_load_at c oM _ hl _ fullShare f f (Finset.subset_univ _) (Memref.readAt_unit_zero (Elt F) cc0_stg3_0 hz2 _ f)

theorem wp_load_rows (c : Dev nD) (f : Vec F S1024x512 .bf16) (inb : ∀ a, (![0, 0] : Fin 2 → ℕ) a + S1024x512.size a ≤ S1024x512.size a)
    (hl : (bM : Memref sig .tc .vmem S1024x512 .bf16).view.LoadsAt (Rect.unit (s := S1024x512) ![0, 0] S1024x512.size inb).toLoadRect)
    {α : Type} {Q : α → sProp 𝕄} {kk : Vec F S1024x512 .bf16 → Prog (TpuEff nD τ sig (Elt F) Λ₀ .tc) α} :
    (rowsPts c f : sProp 𝕄) ⊢ iprop((rowsPts c f -∗ WP c (kk f) Q) -∗ WP c (.op (.load bM (Rect.unit (s := S1024x512) ![0, 0] S1024x512.size inb).toLoadRect hl) kk) Q) := by
  unfold rowsPts
  exact wp_load_at c bM _ hl _ fullShare f f (Finset.subset_univ _) (Memref.readAt_unit_zero (Elt F) cc0_scratch1 hz2 _ f)

theorem wp_store_out (c : Dev nD) (f w : Vec F S1024x1024 .f32) (inb : ∀ a, (![0, 0] : Fin 2 → ℕ) a + S1024x1024.size a ≤ S1024x1024.size a)
    (hs : ((oM : Memref sig .tc .vmem S1024x1024 .f32).access (Rect.unit (s := S1024x1024) ![0, 0] S1024x1024.size inb)).Stores Finset.univ) (ha)
    {α : Type} {Q : α → sProp 𝕄} {kk : PUnit → Prog (TpuEff nD τ sig (Elt F) Λ₀ .tc) α} :
    (outPts c f : sProp 𝕄) ⊢ iprop((outPts c w -∗ WP c (kk ⟨⟩) Q) -∗ WP c (.op (.store oM (Rect.unit (s := S1024x1024) ![0, 0] S1024x1024.size inb) w Finset.univ hs ha) kk) Q) := by
  unfold outPts
  have hw := Memref.write_access_unit_zero_univ (Elt F) cc0_stg3_0 hz2 inb f w
  exact wp_store_at c oM (Rect.unit (s := S1024x1024) ![0, 0] S1024x1024.size inb) w hs ha Finset.univ f w (Finset.subset_univ _)
    (Entails.of_eq (congrArg (fun g => (((c : Thread nD τ).loc cc0_stg3_0) ↦{fullShare} g : sProp 𝕄)) hw))

/-! ## A trip -/

/-- Before the first trip, the next device's slot from the barrier; after the last, the device's own free slot. -/
def first (c : Dev nD) (k : ℕ) : sProp 𝕄 := if k = 0 then iprop(∃ f, slotPts (nxt c) 1 f) else iprop(emp)
def final (c : Dev nD) (k : ℕ) : sProp 𝕄 := if k = 31 then iprop(∃ f, slotPts c 0 f) else iprop(emp)

/-- What trip `h` uses up: its duties and the credit of the weights it receives; and the credit of a unit of credit. -/
def trip (c : Dev nD) (h : Fin 31) : sProp 𝕄 :=
  iprop(dutyTok ER (cell c (kSnd (par h.val))) (h.val / 2) 0 ∗ dutyTok ER (cell (nxt c) (kRcv (par (h.val + 1)))) (h.val / 2) 0
    ∗ dutyTok ER (cell (prv c) kCr) h.val 0 ∗ cred (crdR c h))
def crd (c : Dev nD) (h : Fin 31) : sProp 𝕄 := cred (crdC c h)

/-- The credit cell before trip `k`: what it is at, and the credit of its waits to come. -/
def crAt (c : Dev nD) (k : ℕ) : sProp 𝕄 := iprop(atPos ER (cell c kCr) (k - 1) ∅ 0 ∗ bigSep (geS 31 (k - 1)) (crd c))

/-- The wait for the next device's slot, which the first trip needs not. -/
theorem hop_wait (c : Dev nD) (k : Fin k0_t5_loop.trips) (h : Fin 31) (hk : k.val = h.val) :
    iprop(recs m ρ K ∗ owed c (OR c h.val) ∗ crAt c h.val ∗ first c h.val)
      ⊢ WP c ((if _h : Scalar.cmpi .ne (Scalar.extui (Scalar.cmpi .sge (Scf.iv 1#32 1#32 k) 2#32) : BitVec 32) 0#32 = 1#1 then
          (Prog.op (.semWait (cc0_scratch8 : Sems sig S_).sem (1#32).toNat) fun _ => Prog.ret (PUnit.unit)) else Prog.ret (PUnit.unit) : Prog (TpuEff nD τ sig (Elt F) Λ₀ .tc) PUnit)) fun _ =>
          iprop(owed c (OR c h.val) ∗ crAt c (h.val + 1) ∗ (∃ f, slotPts (nxt c) (par (h.val + 1)) f) ∗ reached ER (cell c kCr) h.val
            ∗ reached ER (cell (nxt c) (kRcv (par (h.val + 1)))) (h.val / 2)) := by
  have hlt := h.isLt
  unfold crAt first
  by_cases h0 : h.val = 0
  · rw [dif_neg (by rw [cond4_iff, hk, h0]; decide), WP_ret, h0, if_pos rfl]
    iintro ⟨#HR, HO, Hc, Hf⟩
    imodintro
    isplitl [HO]; · iexact HO
    isplitl [Hc]; · iexact Hc
    isplitl [Hf]; · iexact Hf
    isplitr
    · iapply (recs_reached m ρ K c kCr); iexact HR
    iapply (recs_reached m ρ K (nxt c) (kRcv (par (0 + 1)))); iexact HR
  · rw [dif_pos ((cond4_iff k).mpr (by omega)), if_neg h0, bigSep_ge_peel (⟨h.val - 1, by omega⟩ : Fin 31) (crd c)]
    rw [show crd (F := F) c ⟨h.val - 1, by omega⟩ = cred (tallyAt (cell c kCr) (2 * (h.val - 1) + 4) 1) from by
      unfold crd crdC; exact congrArg cred (if_pos (by show h.val - 1 < 30; omega))]
    iintro ⟨#HR, HO, ⟨Hat, Hc, Hcs⟩, -⟩
    iapply (wp_wait_cell m ρ K c kCr (h.val - 1) (2 * (h.val - 1) + 4) (by show _ < 66; omega) (duties_cr c (h.val - 1) (by omega)) (above_OR c h.val (by omega))
      (fun Q => (wpE_semWait_eq 𝒱₀ (c : Thread nD τ) none Set.univ Q).trans (by rw [cr_sem]; rfl))) $$ [Hc HO Hat]
    · isplitr; · iexact HR
      isplitl [Hc]; · iexact Hc
      isplitl [HO]; · iexact HO
      iexact Hat
    rw [pay_cr, show h.val - 1 + 1 = h.val from by omega, show h.val + 1 - 1 = h.val from by omega]
    unfold crPay
    rw [show (h.val - 1 + 1) / 2 = h.val / 2 from by rw [Nat.sub_add_cancel (by omega)],
      show par (h.val - 1) = par (h.val + 1) from Fin.ext (by show (h.val - 1) % 2 = (h.val + 1) % 2; omega)]
    iintro ⟨HO, Hat, Hr, Hs, Hr'⟩
    rw [WP_ret]
    imodintro
    isplitl [HO]; · iexact HO
    isplitl [Hat Hcs]; · isplitl [Hat] <;> iassumption
    isplitl [Hs]; · iexact Hs
    isplitl [Hr] <;> iassumption

end Cert.KernelIdealProof

end
-- ==== Proof.IdealTrip.lean ====
/-
A whole trip of the kernel's ring, from the state before it to the state after it.
-/
module

public import proofs.«01_k».proof.Proof.IdealHop

@[expose] public section

noncomputable section

namespace Cert.KernelIdealProof

open Cert.KernelIdeal Cert.KernelIdeal.Gen Cert.Util

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig ℕ (Elt F) ℕ UU ℕ

variable (m : (ℓ : Loc nD τ sig) → Buf (Elt F) ℓ) (ρ : Dev nD → PrngReg) (K : Dev nD × CK → ℕ)

section Trip

variable (h0 : (xM : Memref sig .tc .vmem S1024x512 .bf16).IsWhole) (h1 : (rM : Memref sig .tc .vmem S1024x1 .i32).IsWhole)
  (h2 : (eM : Memref sig .tc .vmem S4x512x1024 .bf16).IsWhole) (h3 : (oM : Memref sig .tc .vmem S1024x1024 .f32).IsWhole)
  (h4 : (cM : Memref sig .tc .vmem S2x4x512x1024 .bf16).IsWhole) (h5 : (bM : Memref sig .tc .vmem S1024x512 .bf16).IsWhole)
  (h6 : (hM : Memref sig .tc .vmem S1x128 .i32).IsWhole) (h7 : (aM : Memref sig .tc .vmem S32x128 .i32).IsWhole)

/-- The first part: the slot is sent and the send waited for. -/
theorem trip_send (c : Dev nD) (v7 : BitVec 32) (k : Fin k0_t5_loop.trips) (h : Fin 31) (hk : k.val = h.val) :
    iprop(recs m ρ K ∗ owed c (OR c h.val) ∗ crAt c h.val ∗ first c h.val ∗ slotPts c (par h.val) (wbuf (wstg m ρ (org c h.val)))
        ∗ dutyTok ER (cell c (kSnd (par h.val))) (h.val / 2) 0 ∗ dutyTok ER (cell (nxt c) (kRcv (par (h.val + 1)))) (h.val / 2) 0
        ∗ atPos ER (cell c (kSnd (par h.val))) (h.val / 2) ∅ 0 ∗ reached ER (cell c (kSnd (par h.val))) (h.val / 2))
      ⊢ WP c (k0_part1 (F := F) xM h0 rM h1 eM h2 oM h3 cM h4 bM h5 hM h6 aM h7 cc0_scratch4 cc0_scratch5 cc0_scratch6 cc0_scratch7 cc0_scratch8 c v7 1#32 1#32 k) fun r =>
          iprop(⌜r = ⟨ivW h.val, Scalar.remsi (ivW h.val) 2#32⟩⌝ ∗ owed c (OR c (h.val + 1) + dCr c h) ∗ crAt c (h.val + 1)
            ∗ slotPts c (par h.val) (wbuf (wstg m ρ (org c h.val)))
            ∗ atPos ER (cell c (kSnd (par h.val))) (h.val / 2 + 1) ∅ 0 ∗ reached ER (cell c (kSnd (par h.val))) (h.val / 2 + 1)) := by
  have hlt := h.isLt
  rw [k0_part1_eq_skeleton]
  unfold k0_part1_skel
  simp only [semWaitWord, Prog.lift, Prog.bind_op, Prog.bind_ret, Prog.pure_eq_ret]
  rw [dite_step, WP_bind]
  iintro ⟨#HR, HO, Hcr, Hf, Hs, Ht₁, Ht₂, Hat, Hr₁⟩
  iapply (wp_wand_r frame (wpE (defs₀ (F := F)) 𝒱₀ (c : Thread nD τ) none) Set.univ)
  isplitl [HO Hcr Hf]
  · iapply (hop_wait m ρ K c k h hk)
    isplitr; · iexact HR
    isplitl [HO]; · iexact HO
    isplitl [Hcr] <;> iassumption
  iintro %_ ⟨HO, Hcr, Hd, Hr, Hr₂⟩
  rw [OR_peel]
  have e8 : k0_off8 k = ![(par h.val).val] := (k0_off8_eq k).trans (by rw [hk]; rfl)
  have e9 : k0_off9 k = ![(par (h.val + 1)).val] := (k0_off9_eq k).trans (by rw [hk]; rfl)
  have e10 : k0_off10 k = ![(par (h.val + 1)).val, 0, 0, 0] := (k0_off10_eq k).trans (by rw [hk]; rfl)
  have e11 : k0_off11 k = ![(par h.val).val, 0, 0, 0] := (k0_off11_eq k).trans (by rw [hk]; rfl)
  iapply (wp_send_slot m ρ K c _ (Fin.ext (k0_dev3_eq c)) h.val hlt _ _ (snd_sem _ e8 _) (rcv_sem _ e9 _) _ _ (slot_mem _ e11 _) (slot_mem _ e10 _) (OR c (h.val + 1) + dCr c h)) $$ [HO Hs Hd Hr Ht₁ Hr₁ Ht₂ Hr₂]
  · isplitr; · iexact HR
    isplitl [Hs]; · iexact Hs
    isplitl [Hd]; · iexact Hd
    isplitl [Hr]; · iexact Hr
    isplitl [HO]; · unfold dRcv; iexact HO
    isplitl [Ht₁]; · iexact Ht₁
    isplitl [Hr₁]; · iexact Hr₁
    isplitl [Ht₂] <;> iassumption
  iintro ⟨Hc, HO⟩
  iapply (wp_wait_cell m ρ K c (kSnd (par h.val)) (h.val / 2) 0 (by decide) (duties_snd c h.val hlt) (above_add (above_OR c (h.val + 1) (by omega)) (above_dCr c h (by omega)))
    (fun Q => (wpE_waitDma2_eq 𝒱₀ (c : Thread nD τ) none Set.univ Q).trans (by rw [snd_sem _ e8 _, slot_mem _ e11 _, credit_slot]; rfl))) $$ [Hc HO Hat]
  · isplitr; · iexact HR
    isplitl [Hc]; · iexact Hc
    isplitl [HO]; · iexact HO
    iexact Hat
  rw [pay_snd, sndPay, show 2 * (h.val / 2) + (par h.val).val = h.val from by show 2 * (h.val / 2) + h.val % 2 = h.val; omega]
  iintro ⟨HO, Hat, Hr₁, Hs⟩
  rw [WP_ret]
  imodintro
  isplitr; · ipureintro; rw [hk]; rfl
  isplitl [HO]; · iexact HO
  isplitl [Hcr]; · iexact Hcr
  isplitl [Hs]; · iexact Hs
  isplitl [Hat] <;> iassumption

/-- The slot just sent is given to the device before with a unit of credit, but in the last trip. -/
theorem hop_give (c : Dev nD) (h : Fin 31) {C : Prop} [Decidable C] (hC : C ↔ h.val < 30) (n : C → Dev nD) (hn : ∀ hc, n hc = prv c) :
    iprop(recs m ρ K ∗ owed c (OR c (h.val + 1) + dCr c h) ∗ slotPts c (par h.val) (wbuf (wstg m ρ (org c h.val)))
        ∗ dutyTok ER (cell (prv c) kCr) h.val 0 ∗ reached ER (cell c (kRcv (par h.val))) ((h.val + 1) / 2) ∗ reached ER (cell (prv c) kCr) h.val)
      ⊢ WP c ((if hc : C then (Prog.op (.semSignal (n hc : Thread nD τ) (cc0_scratch8 : Sems sig S_).sem 1) fun _ => Prog.ret PUnit.unit)
          else Prog.ret PUnit.unit : Prog (TpuEff nD τ sig (Elt F) Λ₀ .tc) PUnit)) fun _ => iprop(owed c (OR c (h.val + 1)) ∗ final c (h.val + 1)) := by
  unfold final dCr
  by_cases hl : h.val < 30
  · rw [dif_pos (hC.mpr hl), if_pos hl, if_neg (by omega)]
    iintro ⟨#HR, HO, Hs, Ht, Hr', Hrp⟩
    iapply (wp_signal_cell m ρ K c _ (prv c) (hn _) kCr (cc0_scratch8 : Sems sig S_).sem cr_sem h.val (2 * h.val + 4) 0
      (by rw [duties_cr _ _ hl]; exact Finset.mem_singleton_self _) rfl (OR c (h.val + 1))) $$ [HO Hs Ht Hr' Hrp]
    · isplitr; · iexact HR
      isplitl [HO]; · iexact HO
      isplitl [Ht]; · iexact Ht
      isplitl [Hs Hr']
      · rw [pay_cr, crPay, nxt_prv]
        isplitl [Hs]; · iexists _; iexact Hs
        iexact Hr'
      iexact Hrp
    iintro HO
    rw [WP_ret]
    imodintro
    isplitl [HO]; · iexact HO
    iempintro
  · have hlt := h.isLt
    rw [dif_neg (fun hc => hl (hC.mp hc)), if_neg hl, if_pos (by omega), add_zero, WP_ret]
    iintro ⟨-, HO, Hs, -⟩
    imodintro
    isplitl [HO]; · iexact HO
    rw [show (0 : Fin 2) = par h.val from Fin.ext (by show 0 = h.val % 2; omega)]
    iexists _; iexact Hs

/-- The second part: the weights arrive, the slot sent goes to the device before, and the first product is added. -/
theorem trip_recv (c : Dev nD) (v5 : BitVec 32) (a : Vec F S1024x1024 .f32) (k : Fin k0_t5_loop.trips) (h : Fin 31) (hk : k.val = h.val) :
    iprop(recs m ρ K ∗ owed c (OR c (h.val + 1) + dCr c h) ∗ slotPts c (par h.val) (wbuf (wstg m ρ (org c h.val)))
        ∗ dutyTok ER (cell (prv c) kCr) h.val 0 ∗ cred (crdR c h)
        ∗ atPos ER (cell c (kRcv (par (h.val + 1)))) (h.val / 2) ∅ 0 ∗ reached ER (cell c (kRcv (par h.val))) ((h.val + 1) / 2)
        ∗ outPts c a ∗ rowsPts c (bxV m ρ c))
      ⊢ WP c (k0_part2 (F := F) xM h0 rM h1 eM h2 oM h3 cM h4 bM h5 hM h6 aM h7 cc0_scratch4 cc0_scratch5 cc0_scratch6 cc0_scratch7 cc0_scratch8 c (meW c) v5
          (rtV m ρ c) (kpV m ρ c) k (ivW h.val) (Scalar.remsi (ivW h.val) 2#32)) fun r =>
          iprop(⌜r = ⟨orgW c h.val, bxV m ρ c, k0_pay3 (meW c) (rtV m ρ c) (kpV m ρ c) (ivW h.val) (bxV m ρ c)⟩⌝ ∗ owed c (OR c (h.val + 1)) ∗ final c (h.val + 1)
            ∗ atPos ER (cell c (kRcv (par (h.val + 1)))) (h.val / 2 + 1) ∅ 0 ∗ reached ER (cell c (kRcv (par (h.val + 1)))) (h.val / 2 + 1)
            ∗ slotPts c (par (h.val + 1)) (wbuf (wstg m ρ (org c (h.val + 1))))
            ∗ outPts c (hop1 m ρ c h.val (wstg m ρ (org c (h.val + 1))) a) ∗ rowsPts c (bxV m ρ c)) := by
  have hlt := h.isLt
  rw [k0_part2_eq_skeleton]
  unfold k0_part2_skel
  simp only [semSignalWord, Prog.lift, Prog.bind_op, Prog.bind_ret, Prog.pure_eq_ret]
  have e9 : k0_off9 k = ![(par (h.val + 1)).val] := (k0_off9_eq k).trans (by rw [hk]; rfl)
  have e10 : k0_off10 k = ![(par (h.val + 1)).val, 0, 0, 0] := (k0_off10_eq k).trans (by rw [hk]; rfl)
  have e12 : k0_off12 k = ![(par (h.val + 1)).val, (0 : Fin 4).val, 0, 0] := (k0_off12_eq k).trans (by rw [hk]; rfl)
  iintro ⟨#HR, HO, Hs, Ht, Hc, Hat, Hr', Ho, Hb⟩
  iapply (wp_wait_cell m ρ K c (kRcv (par (h.val + 1))) (h.val / 2) (2 * h.val + 3) (by show _ < 66; omega) (duties_rcv c h.val hlt)
    (above_add (above_OR c (h.val + 1) (by omega)) (above_dCr c h (by omega)))
    (fun Q => (wpE_waitDma2_eq 𝒱₀ (c : Thread nD τ) none Set.univ Q).trans (by rw [rcv_sem _ e9 _, slot_mem _ e10 _, credit_slot]; rfl))) $$ [Hc HO Hat]
  · isplitr; · iexact HR
    isplitl [Hc]; · unfold crdR; iexact Hc
    isplitl [HO]; · iexact HO
    iexact Hat
  rw [pay_rcv, rcvPay, show 2 * (h.val / 2) + 2 - (par (h.val + 1)).val = h.val + 1 from by show 2 * (h.val / 2) + 2 - (h.val + 1) % 2 = h.val + 1; omega,
    show 2 * (h.val / 2) + 1 - (par (h.val + 1)).val = h.val from by show 2 * (h.val / 2) + 1 - (h.val + 1) % 2 = h.val; omega]
  iintro ⟨HO, Hat, Hr, Hn, Hrp⟩
  rw [dite_step, WP_bind]
  iapply (wp_wand_r frame (wpE (defs₀ (F := F)) 𝒱₀ (c : Thread nD τ) none) Set.univ (Q := fun _ => iprop(owed c (OR c (h.val + 1)) ∗ final c (h.val + 1))))
  isplitl [HO Hs Ht Hr' Hrp]
  · iapply (hop_give m ρ K c h ((cond5_iff k).trans (by rw [hk])) _ fun _ => Fin.ext (k0_dev4_eq c))
    isplitr; · iexact HR
    isplitl [HO]; · iexact HO
    isplitl [Hs]; · iexact Hs
    isplitl [Ht]; · iexact Ht
    isplitl [Hr'] <;> iassumption
  iintro %_ ⟨HO, Hfin⟩
  iapply (wp_load_rows c (bxV m ρ c)) $$ Hb
  iintro Hb
  iapply (wp_load_slot c (par (h.val + 1)) 0 (wstg m ρ (org c (h.val + 1))) e12) $$ Hn
  iintro Hn
  iapply (wp_load_out c a) $$ Ho
  iintro Ho
  iapply (wp_load_out c a) $$ Ho
  iintro Ho
  iapply (wp_store_out c a) $$ Ho
  iintro Ho
  rw [WP_ret]
  imodintro
  isplitr; · ipureintro; rfl
  isplitl [HO]; · iexact HO
  isplitl [Hfin]; · iexact Hfin
  isplitl [Hat]; · iexact Hat
  isplitl [Hr]; · iexact Hr
  isplitl [Hn]; · iexact Hn
  isplitl [Ho]; · unfold hop1; iexact Ho
  iexact Hb

/-- The third part: the second and third products. -/
theorem trip_mid (c : Dev nD) (w : (cc0_stg2_0 : Ref sig .tc).ty.Contents (Elt F)) (a : Vec F S1024x1024 .f32) (k : Fin k0_t5_loop.trips) (h : Fin 31) (hk : k.val = h.val) (v128 : BitVec 32) :
    iprop(slotPts c (par (h.val + 1)) (wbuf w) ∗ outPts c (hop1 m ρ c h.val w a))
      ⊢ WP c (k0_part3 (F := F) xM h0 rM h1 eM h2 oM h3 cM h4 bM h5 hM h6 aM h7 cc0_scratch4 cc0_scratch5 cc0_scratch6 cc0_scratch7 cc0_scratch8
          (rtV m ρ c) (kpV m ρ c) k v128 (orgW c h.val) (bxV m ρ c) (k0_pay3 (meW c) (rtV m ρ c) (kpV m ρ c) (ivW h.val) (bxV m ρ c))) fun r =>
          iprop(⌜r = k0_pay6 (rtV m ρ c) (kpV m ρ c) (orgW c h.val) (bxV m ρ c)⌝ ∗ slotPts c (par (h.val + 1)) (wbuf w) ∗ outPts c (hop3 m ρ c h.val w a)) := by
  rw [k0_part3_eq_skeleton]
  unfold k0_part3_skel
  simp only [Prog.lift, Prog.bind_op, Prog.bind_ret, Prog.pure_eq_ret]
  have e13 : k0_off13 k = ![(par (h.val + 1)).val, (1 : Fin 4).val, 0, 0] := (k0_off13_eq k).trans (by rw [hk]; rfl)
  have e14 : k0_off14 k = ![(par (h.val + 1)).val, (2 : Fin 4).val, 0, 0] := (k0_off14_eq k).trans (by rw [hk]; rfl)
  iintro ⟨Hn, Ho⟩
  iapply (wp_load_slot c (par (h.val + 1)) 1 w e13) $$ Hn
  iintro Hn
  iapply (wp_load_out c) $$ Ho
  iintro Ho
  iapply (wp_load_out c) $$ Ho
  iintro Ho
  iapply (wp_store_out c) $$ Ho
  iintro Ho
  iapply (wp_load_slot c (par (h.val + 1)) 2 w e14) $$ Hn
  iintro Hn
  iapply (wp_load_out c) $$ Ho
  iintro Ho
  iapply (wp_load_out c) $$ Ho
  iintro Ho
  iapply (wp_store_out c) $$ Ho
  iintro Ho
  rw [WP_ret]
  imodintro
  isplitr; · ipureintro; rfl
  isplitl [Hn]; · iexact Hn
  unfold hop3 hop2
  iexact Ho

/-! ## The loop -/

/-- The state before trip `k` of the ring. -/
def ringAt (c : Dev nD) (k : ℕ) : sProp 𝕄 :=
  iprop(owed c (OR c k) ∗ crAt c k ∗ first c k ∗ final c k ∗ slotPts c (par k) (wbuf (wstg m ρ (org c k)))
    ∗ atPos ER (cell c (kSnd (par k))) (k / 2) ∅ 0 ∗ atPos ER (cell c (kSnd (par (k + 1)))) ((k + 1) / 2) ∅ 0
    ∗ reached ER (cell c (kSnd (par k))) (k / 2) ∗ reached ER (cell c (kSnd (par (k + 1)))) ((k + 1) / 2)
    ∗ atPos ER (cell c (kRcv (par (k + 1)))) (k / 2) ∅ 0 ∗ atPos ER (cell c (kRcv (par k))) ((k + 1) / 2) ∅ 0
    ∗ reached ER (cell c (kRcv (par k))) ((k + 1) / 2)
    ∗ bigSep (geS 31 k) (trip c) ∗ outPts c (accV m ρ c k) ∗ rowsPts c (bxV m ρ c))

theorem ring_trip (c : Dev nD) (v5 v7 : BitVec 32) (k : Fin k0_t5_loop.trips) (h : Fin 31) (hk : k.val = h.val) :
    iprop(recs m ρ K ∗ ringAt m ρ c h.val)
      ⊢ WP c (k0_t5_body (F := F) xM h0 rM h1 eM h2 oM h3 cM h4 bM h5 hM h6 aM h7 cc0_scratch4 cc0_scratch5 cc0_scratch6 cc0_scratch7 cc0_scratch8 c (meW c) v5 v7
          (rtV m ρ c) (kpV m ρ c) k ⟨⟩) fun _ => ringAt m ρ c (h.val + 1) := by
  have hlt := h.isLt
  unfold k0_t5_body ringAt
  have p2 : par (h.val + 1 + 1) = par h.val := Fin.ext (by show (h.val + 1 + 1) % 2 = h.val % 2; omega)
  have d2 : (h.val + 1 + 1) / 2 = h.val / 2 + 1 := by omega
  rw [bigSep_ge_peel h (trip c), p2, d2]
  have ht : trip (F := F) c h = iprop(dutyTok ER (cell c (kSnd (par h.val))) (h.val / 2) 0 ∗ dutyTok ER (cell (nxt c) (kRcv (par (h.val + 1)))) (h.val / 2) 0
    ∗ dutyTok ER (cell (prv c) kCr) h.val 0 ∗ cred (crdR c h)) := rfl
  rw [ht]
  have e15 : k0_off15 k = ![(par (h.val + 1)).val, (3 : Fin 4).val, 0, 0] := (k0_off15_eq k).trans (by rw [hk]; rfl)
  iintro ⟨#HR, HO, Hcr, Hf, -, Hs, HaS, HaS', Hr₁, HrS', HaR, HaR', #Hr', ⟨⟨Ht₁, Ht₂, Ht, Hc⟩, Hts⟩, Ho, Hb⟩
  rw [WP_bind]
  iapply (wp_wand_r frame (wpE (defs₀ (F := F)) 𝒱₀ (c : Thread nD τ) none) Set.univ)
  isplitl [HO Hcr Hf Hs Ht₁ Ht₂ HaS Hr₁]
  · iapply (trip_send m ρ K h0 h1 h2 h3 h4 h5 h6 h7 c v7 k h hk)
    isplitr; · iexact HR
    isplitl [HO]; · iexact HO
    isplitl [Hcr]; · iexact Hcr
    isplitl [Hf]; · iexact Hf
    isplitl [Hs]; · iexact Hs
    isplitl [Ht₁]; · iexact Ht₁
    isplitl [Ht₂]; · iexact Ht₂
    isplitl [HaS] <;> iassumption
  iintro %r ⟨%hr, HO, Hcr, Hs, HaS, Hr₁⟩
  subst hr
  simp only
  first | rw [wp_bind] | rw [WP_bind]
  iapply (wp_wand_r frame (wpE (defs₀ (F := F)) 𝒱₀ (c : Thread nD τ) none) Set.univ)
  isplitl [HO Hs Ht Hc HaR Ho Hb]
  · iapply (trip_recv m ρ K h0 h1 h2 h3 h4 h5 h6 h7 c v5 (accV m ρ c h.val) k h hk)
    isplitr; · iexact HR
    isplitl [HO]; · iexact HO
    isplitl [Hs]; · iexact Hs
    isplitl [Ht]; · iexact Ht
    isplitl [Hc]; · iexact Hc
    isplitl [HaR]; · iexact HaR
    isplitr; · iexact Hr'
    isplitl [Ho] <;> iassumption
  iintro %r ⟨%hr, HO, Hfin, HaR, HrR, Hn, Ho, Hb⟩
  subst hr
  simp only
  first | rw [wp_bind] | rw [WP_bind]
  iapply (wp_wand_r frame (wpE (defs₀ (F := F)) 𝒱₀ (c : Thread nD τ) none) Set.univ)
  isplitl [Hn Ho]
  · iapply (trip_mid m ρ h0 h1 h2 h3 h4 h5 h6 h7 c (wstg m ρ (org c (h.val + 1))) (accV m ρ c h.val) k h hk)
    isplitl [Hn] <;> iassumption
  iintro %r ⟨%hr, Hn, Ho⟩
  subst hr
  simp only [Prog.lift, Prog.bind_op, Prog.bind_ret, Prog.pure_eq_ret]
  iapply (wp_load_slot c (par (h.val + 1)) 3 (wstg m ρ (org c (h.val + 1))) e15) $$ Hn
  iintro Hn
  iapply (wp_load_out c) $$ Ho
  iintro Ho
  iapply (wp_load_out c) $$ Ho
  iintro Ho
  iapply (wp_store_out c) $$ Ho
  iintro Ho
  rw [WP_ret]
  imodintro
  isplitl [HO]; · iexact HO
  isplitl [Hcr]; · iexact Hcr
  isplitr; · unfold first; rw [if_neg (Nat.succ_ne_zero _)]; iempintro
  isplitl [Hfin]; · iexact Hfin
  isplitl [Hn]; · iexact Hn
  isplitl [HaS']; · iexact HaS'
  isplitl [HaS]; · iexact HaS
  isplitl [HrS']; · iexact HrS'
  isplitl [Hr₁]; · iexact Hr₁
  isplitl [HaR']; · iexact HaR'
  isplitl [HaR]; · iexact HaR
  isplitl [HrR]; · iexact HrR
  isplitl [Hts]; · iexact Hts
  isplitl [Ho]
  · rw [accV, hop4]; iexact Ho
  iexact Hb

end Trip

end Cert.KernelIdealProof

end
-- ==== Proof.IdealOwn.lean ====
/-
The parts of the kernel between the exchange of histograms and the ring, and the loads and stores of its whole buffers.
-/
module

public import proofs.«01_k».proof.Proof.IdealTrip
public import Idealize.ShloMosaic.Lib.Pipeline.Value

@[expose] public section

noncomputable section

namespace Cert.KernelIdealProof

open Cert.KernelIdeal Cert.KernelIdeal.Gen Cert.Util

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig ℕ (Elt F) ℕ UU ℕ

variable (m : (ℓ : Loc nD τ sig) → Buf (Elt F) ℓ) (ρ : Dev nD → PrngReg) (K : Dev nD × CK → ℕ)

/-! ## The other buffers, each whole -/

/-- The staged tokens, routes and weights, the device's own histogram and the table of histograms. -/
def xPts (c : Dev nD) (f : Vec F S1024x512 .bf16) : sProp 𝕄 := ((c : Thread nD τ).loc cc0_stg0_0) ↦{fullShare} f
def rPts (c : Dev nD) (f : Vec F S1024x1 .i32) : sProp 𝕄 := ((c : Thread nD τ).loc cc0_stg1_0) ↦{fullShare} f
def ePts (c : Dev nD) (f : Vec F S4x512x1024 .bf16) : sProp 𝕄 := ((c : Thread nD τ).loc cc0_stg2_0) ↦{fullShare} f
def myPts (c : Dev nD) (f : Vec F S1x128 .i32) : sProp 𝕄 := ((c : Thread nD τ).loc cc0_scratch2) ↦{fullShare} f
def tabPts (c : Dev nD) (f : Vec F S32x128 .i32) : sProp 𝕄 := ((c : Thread nD τ).loc cc0_scratch3) ↦{fullShare} f

theorem hz3 : (![0, 0, 0] : Fin 3 → ℕ) = fun _ => 0 := funext fun a => by fin_cases a <;> rfl

theorem wp_load_x (c : Dev nD) (f : Vec F S1024x512 .bf16) (inb : ∀ a, (![0, 0] : Fin 2 → ℕ) a + S1024x512.size a ≤ S1024x512.size a)
    (hl : (xM : Memref sig .tc .vmem S1024x512 .bf16).view.LoadsAt (Rect.unit (s := S1024x512) ![0, 0] S1024x512.size inb).toLoadRect)
    {α : Type} {Q : α → sProp 𝕄} {kk : Vec F S1024x512 .bf16 → Prog (TpuEff nD τ sig (Elt F) Λ₀ .tc) α} :
    (xPts c f : sProp 𝕄) ⊢ iprop((xPts c f -∗ WP c (kk f) Q) -∗ WP c (.op (.load xM (Rect.unit (s := S1024x512) ![0, 0] S1024x512.size inb).toLoadRect hl) kk) Q) := by
  unfold xPts
  exact wp_load_at c xM _ hl _ fullShare f f (Finset.subset_univ _) (Memref.readAt_unit_zero (Elt F) cc0_stg0_0 hz2 _ f)

theorem wp_load_r (c : Dev nD) (f : Vec F S1024x1 .i32) (inb : ∀ a, (![0, 0] : Fin 2 → ℕ) a + S1024x1.size a ≤ S1024x1.size a)
    (hl : (rM : Memref sig .tc .vmem S1024x1 .i32).view.LoadsAt (Rect.unit (s := S1024x1) ![0, 0] S1024x1.size inb).toLoadRect)
    {α : Type} {Q : α → sProp 𝕄} {kk : Vec F S1024x1 .i32 → Prog (TpuEff nD τ sig (Elt F) Λ₀ .tc) α} :
    (rPts c f : sProp 𝕄) ⊢ iprop((rPts c f -∗ WP c (kk f) Q) -∗ WP c (.op (.load rM (Rect.unit (s := S1024x1) ![0, 0] S1024x1.size inb).toLoadRect hl) kk) Q) := by
  unfold rPts
  exact wp_load_at c rM _ hl _ fullShare f f (Finset.subset_univ _) (Memref.readAt_unit_zero (Elt F) cc0_stg1_0 hz2 _ f)

theorem wp_load_e (c : Dev nD) (f : Vec F S4x512x1024 .bf16) (inb : ∀ a, (![0, 0, 0] : Fin 3 → ℕ) a + S4x512x1024.size a ≤ S4x512x1024.size a)
    (hl : (eM : Memref sig .tc .vmem S4x512x1024 .bf16).view.LoadsAt (Rect.unit (s := S4x512x1024) ![0, 0, 0] S4x512x1024.size inb).toLoadRect)
    {α : Type} {Q : α → sProp 𝕄} {kk : Vec F S4x512x1024 .bf16 → Prog (TpuEff nD τ sig (Elt F) Λ₀ .tc) α} :
    (ePts c f : sProp 𝕄) ⊢ iprop((ePts c f -∗ WP c (kk f) Q) -∗ WP c (.op (.load eM (Rect.unit (s := S4x512x1024) ![0, 0, 0] S4x512x1024.size inb).toLoadRect hl) kk) Q) := by
  unfold ePts
  exact wp_load_at c eM _ hl _ fullShare f f (Finset.subset_univ _) (Memref.readAt_unit_zero (Elt F) cc0_stg2_0 hz3 _ f)

theorem wp_load_my (c : Dev nD) (f : Vec F S1x128 .i32) (inb : ∀ a, (![0, 0] : Fin 2 → ℕ) a + S1x128.size a ≤ S1x128.size a)
    (hl : (hM : Memref sig .tc .vmem S1x128 .i32).view.LoadsAt (Rect.unit (s := S1x128) ![0, 0] S1x128.size inb).toLoadRect)
    {α : Type} {Q : α → sProp 𝕄} {kk : Vec F S1x128 .i32 → Prog (TpuEff nD τ sig (Elt F) Λ₀ .tc) α} :
    (myPts c f : sProp 𝕄) ⊢ iprop((myPts c f -∗ WP c (kk f) Q) -∗ WP c (.op (.load hM (Rect.unit (s := S1x128) ![0, 0] S1x128.size inb).toLoadRect hl) kk) Q) := by
  unfold myPts
  exact wp_load_at c hM _ hl _ fullShare f f (Finset.subset_univ _) (Memref.readAt_unit_zero (Elt F) cc0_scratch2 hz2 _ f)

theorem wp_load_tab (c : Dev nD) (f : Vec F S32x128 .i32) (inb : ∀ a, (![0, 0] : Fin 2 → ℕ) a + S32x128.size a ≤ S32x128.size a)
    (hl : (aM : Memref sig .tc .vmem S32x128 .i32).view.LoadsAt (Rect.unit (s := S32x128) ![0, 0] S32x128.size inb).toLoadRect)
    {α : Type} {Q : α → sProp 𝕄} {kk : Vec F S32x128 .i32 → Prog (TpuEff nD τ sig (Elt F) Λ₀ .tc) α} :
    (tabPts c f : sProp 𝕄) ⊢ iprop((tabPts c f -∗ WP c (kk f) Q) -∗ WP c (.op (.load aM (Rect.unit (s := S32x128) ![0, 0] S32x128.size inb).toLoadRect hl) kk) Q) := by
  unfold tabPts
  exact wp_load_at c aM _ hl _ fullShare f f (Finset.subset_univ _) (Memref.readAt_unit_zero (Elt F) cc0_scratch3 hz2 _ f)

theorem wp_store_my (c : Dev nD) (f w : Vec F S1x128 .i32) (inb : ∀ a, (![0, 0] : Fin 2 → ℕ) a + S1x128.size a ≤ S1x128.size a)
    (hs : ((hM : Memref sig .tc .vmem S1x128 .i32).access (Rect.unit (s := S1x128) ![0, 0] S1x128.size inb)).Stores Finset.univ) (ha)
    {α : Type} {Q : α → sProp 𝕄} {kk : PUnit → Prog (TpuEff nD τ sig (Elt F) Λ₀ .tc) α} :
    (myPts c f : sProp 𝕄) ⊢ iprop((myPts c w -∗ WP c (kk ⟨⟩) Q) -∗ WP c (.op (.store hM (Rect.unit (s := S1x128) ![0, 0] S1x128.size inb) w Finset.univ hs ha) kk) Q) := by
  unfold myPts
  have hw := Memref.write_access_unit_zero_univ (Elt F) cc0_scratch2 hz2 inb f w
  exact wp_store_at c hM (Rect.unit (s := S1x128) ![0, 0] S1x128.size inb) w hs ha Finset.univ f w (Finset.subset_univ _)
    (Entails.of_eq (congrArg (fun g => (((c : Thread nD τ).loc cc0_scratch2) ↦{fullShare} g : sProp 𝕄)) hw))

theorem wp_store_rows (c : Dev nD) (f w : Vec F S1024x512 .bf16) (inb : ∀ a, (![0, 0] : Fin 2 → ℕ) a + S1024x512.size a ≤ S1024x512.size a)
    (hs : ((bM : Memref sig .tc .vmem S1024x512 .bf16).access (Rect.unit (s := S1024x512) ![0, 0] S1024x512.size inb)).Stores Finset.univ) (ha)
    {α : Type} {Q : α → sProp 𝕄} {kk : PUnit → Prog (TpuEff nD τ sig (Elt F) Λ₀ .tc) α} :
    (rowsPts c f : sProp 𝕄) ⊢ iprop((rowsPts c w -∗ WP c (kk ⟨⟩) Q) -∗ WP c (.op (.store bM (Rect.unit (s := S1024x512) ![0, 0] S1024x512.size inb) w Finset.univ hs ha) kk) Q) := by
  unfold rowsPts
  have hw := Memref.write_access_unit_zero_univ (Elt F) cc0_scratch1 hz2 inb f w
  exact wp_store_at c bM (Rect.unit (s := S1024x512) ![0, 0] S1024x512.size inb) w hs ha Finset.univ f w (Finset.subset_univ _)
    (Entails.of_eq (congrArg (fun g => (((c : Thread nD τ).loc cc0_scratch1) ↦{fullShare} g : sProp 𝕄)) hw))

/-- A load of the whole first slot, whatever it holds; -/
theorem wp_load_first (c : Dev nD) (f : Buf (Elt F) (cLoc c)) (inb : ∀ a, (![0, 0, 0, 0] : Fin 4 → ℕ) a + S1x4x512x1024.size a ≤ S2x4x512x1024.size a)
    (hl : (cM : Memref sig .tc .vmem S2x4x512x1024 .bf16).view.LoadsAt (Rect.unit (s := S2x4x512x1024) ![0, 0, 0, 0] S1x4x512x1024.size inb).toLoadRect)
    {α : Type} {Q : α → sProp 𝕄} {kk : Vec F S1x4x512x1024 .bf16 → Prog (TpuEff nD τ sig (Elt F) Λ₀ .tc) α} :
    (slotPts c 0 f : sProp 𝕄) ⊢ iprop((slotPts c 0 f -∗ WP c (kk ((cM : Memref sig .tc .vmem S2x4x512x1024 .bf16).view.readAt (Elt F) (Rect.unit (s := S2x4x512x1024) ![0, 0, 0, 0] S1x4x512x1024.size inb).toLoadRect f)) Q)
      -∗ WP c (.op (.load cM (Rect.unit (s := S2x4x512x1024) ![0, 0, 0, 0] S1x4x512x1024.size inb).toLoadRect hl) kk) Q) := by
  unfold slotPts
  refine wp_load_at c cM _ hl _ fullShare f _ ?_ rfl
  intro i hi
  obtain ⟨x, hx, rfl⟩ := Finset.mem_map.mp hi
  exact hx

/-- the block of weights as it is stored; -/
theorem pay12_apply (w : Vec F S4x512x1024 .bf16) (x : S1x4x512x1024.Idx) : k0_pay12 w x = w (ix3 (x 1) (x 2) (x 3)) := by
  unfold k0_pay12
  rw [shapeCast_self]
  refine (shapeCast_addUnit_apply ![4, 512, 1024] w _ x).trans (congrArg w (funext fun a => ?_))
  fin_cases a <;> rfl

/-- a store of the block to the first slot. -/
theorem wp_store_first (c : Dev nD) (f : Buf (Elt F) (cLoc c)) (w : Vec F S4x512x1024 .bf16) (inb : ∀ a, (![0, 0, 0, 0] : Fin 4 → ℕ) a + S1x4x512x1024.size a ≤ S2x4x512x1024.size a)
    (hs : ((cM : Memref sig .tc .vmem S2x4x512x1024 .bf16).access (Rect.unit (s := S2x4x512x1024) ![0, 0, 0, 0] S1x4x512x1024.size inb)).Stores Finset.univ) (ha)
    {α : Type} {Q : α → sProp 𝕄} {kk : PUnit → Prog (TpuEff nD τ sig (Elt F) Λ₀ .tc) α} :
    (slotPts c 0 f : sProp 𝕄) ⊢ iprop((slotPts c 0 (wbuf w) -∗ WP c (kk ⟨⟩) Q)
      -∗ WP c (.op (.store cM (Rect.unit (s := S2x4x512x1024) ![0, 0, 0, 0] S1x4x512x1024.size inb) (k0_pay12 w) Finset.univ hs ha) kk) Q) := by
  unfold slotPts
  have hset : ((cM : Memref sig .tc .vmem S2x4x512x1024 .bf16).access (Rect.unit (s := S2x4x512x1024) ![0, 0, 0, 0] S1x4x512x1024.size inb)).setOn Finset.univ = slotSet 0 :=
    View.set_slice_whole _ _
  refine wp_store_at c cM (Rect.unit (s := S2x4x512x1024) ![0, 0, 0, 0] S1x4x512x1024.size inb) (k0_pay12 w) hs ha (slotSet 0) f (wbuf w) (subset_of_eq hset) ?_
  refine Entails.of_eq (pointsTo_congr fun i hi => ?_)
  rw [← hset] at hi
  obtain ⟨x, -, rfl⟩ := Finset.mem_map.mp hi
  refine (View.write_emb_of_mem _ _ (Finset.mem_univ _)).trans ?_
  rw [pay12_apply]
  show w _ = w _
  refine congrArg w (funext fun a => Fin.ext ?_)
  fin_cases a
  · show ((x : S1x4x512x1024.Idx) 1).val = 0 + 1 * ((x : S1x4x512x1024.Idx) 1).val
    omega
  · show ((x : S1x4x512x1024.Idx) 2).val = 0 + 1 * ((x : S1x4x512x1024.Idx) 2).val
    omega
  · show ((x : S1x4x512x1024.Idx) 3).val = 0 + 1 * ((x : S1x4x512x1024.Idx) 3).val
    omega

/-! ## The device's own row of the table does not matter -/

theorem own_row_masked : ∀ c : Dev nD, Scalar.cmpi .slt (BitVec.ofNat 32 c.val) (meW c) = 0#1 := by decide +kernel

/-- The tokens kept depend on the other devices' rows only. -/
theorem kp_congr (c : Dev nD) (v : FVec F S1024x128 .f32) (f g : Vec F S32x128 .i32) (h : ∀ i : S32x128.Idx, i 0 ≠ c → f i = g i) :
    k0_pay10 (meW c) v f = k0_pay10 (meW c) v g := by
  unfold k0_pay10
  have e : select (cmpi .slt (iota .tc S32x128 32 [0] iota_S32x128_d0_w32) (broadcast S32x128 (meW c))) f (broadcast S32x128 0#32)
      = select (cmpi .slt (iota .tc S32x128 32 [0] iota_S32x128_d0_w32) (broadcast S32x128 (meW c))) g (broadcast S32x128 0#32) := by
    funext i
    rw [select_apply, select_apply]
    by_cases hi : i 0 = c
    · have e0 : cmpi .slt (iota .tc S32x128 32 [0] iota_S32x128_d0_w32) (broadcast S32x128 (meW c)) i = 0#1 := by
        show Scalar.cmpi .slt (iota .tc S32x128 32 [0] iota_S32x128_d0_w32 i) (meW c) = 0#1
        rw [iota_single_apply, hi]
        exact own_row_masked c
      rw [e0]; rfl
    · rw [h i hi]
  simp only [] at e ⊢
  rw [e]

/-! ## The device's own weights -/

section Body

variable (h0 : (xM : Memref sig .tc .vmem S1024x512 .bf16).IsWhole) (h1 : (rM : Memref sig .tc .vmem S1024x1 .i32).IsWhole)
  (h2 : (eM : Memref sig .tc .vmem S4x512x1024 .bf16).IsWhole) (h3 : (oM : Memref sig .tc .vmem S1024x1024 .f32).IsWhole)
  (h4 : (cM : Memref sig .tc .vmem S2x4x512x1024 .bf16).IsWhole) (h5 : (bM : Memref sig .tc .vmem S1024x512 .bf16).IsWhole)
  (h6 : (hM : Memref sig .tc .vmem S1x128 .i32).IsWhole) (h7 : (aM : Memref sig .tc .vmem S32x128 .i32).IsWhole)

/-- The last part before the ring: the third and fourth products for the device's own weights. -/
theorem body_part7 (c : Dev nD) (a : Vec F S1024x1024 .f32) :
    iprop(slotPts c 0 (wbuf (wstg m ρ c)) ∗ outPts c a)
      ⊢ WP c (k0_part7 (F := F) xM h0 rM h1 eM h2 oM h3 cM h4 bM h5 hM h6 aM h7 cc0_scratch4 cc0_scratch5 cc0_scratch6 cc0_scratch7 cc0_scratch8 (meW c) (rtV m ρ c) (kpV m ρ c) (bxV m ρ c) (own2 m ρ c)) fun _ =>
          iprop(slotPts c 0 (wbuf (wstg m ρ c)) ∗ outPts c (own4 m ρ c)) := by
  rw [k0_part7_eq_skeleton]
  unfold k0_part7_skel
  simp only [Prog.lift, Prog.bind_op, Prog.bind_ret, Prog.pure_eq_ret]
  iintro ⟨Hn, Ho⟩
  iapply (wp_load_out c) $$ Ho
  iintro Ho
  iapply (wp_store_out c) $$ Ho
  iintro Ho
  iapply (wp_load_slot c 0 2 (wstg m ρ c) rfl) $$ Hn
  iintro Hn
  iapply (wp_load_out c) $$ Ho
  iintro Ho
  iapply (wp_load_out c) $$ Ho
  iintro Ho
  iapply (wp_store_out c) $$ Ho
  iintro Ho
  iapply (wp_load_slot c 0 3 (wstg m ρ c) rfl) $$ Hn
  iintro Hn
  iapply (wp_load_out c) $$ Ho
  iintro Ho
  iapply (wp_load_out c) $$ Ho
  iintro Ho
  iapply (wp_store_out c) $$ Ho
  iintro Ho
  rw [WP_ret]
  imodintro
  isplitl [Hn]; · iexact Hn
  unfold own4 own3
  iexact Ho

/-- The part before it: the first two. -/
theorem body_part6 (c : Dev nD) (a : Vec F S1024x1024 .f32) :
    iprop(slotPts c 0 (wbuf (wstg m ρ c)) ∗ outPts c a ∗ rowsPts c (bxV m ρ c))
      ⊢ WP c (k0_part6 (F := F) xM h0 rM h1 eM h2 oM h3 cM h4 bM h5 hM h6 aM h7 cc0_scratch4 cc0_scratch5 cc0_scratch6 cc0_scratch7 cc0_scratch8 (meW c) (rtV m ρ c) (kpV m ρ c) (k0_pay13 (F := F))) fun r =>
          iprop(⌜r = ⟨bxV m ρ c, own2 m ρ c⟩⌝ ∗ slotPts c 0 (wbuf (wstg m ρ c)) ∗ outPts c (own1 m ρ c) ∗ rowsPts c (bxV m ρ c)) := by
  rw [k0_part6_eq_skeleton]
  unfold k0_part6_skel
  simp only [Prog.lift, Prog.bind_op, Prog.bind_ret, Prog.pure_eq_ret]
  iintro ⟨Hn, Ho, Hb⟩
  iapply (wp_store_out c) $$ Ho
  iintro Ho
  iapply (wp_load_rows c) $$ Hb
  iintro Hb
  iapply (wp_load_slot c 0 0 (wstg m ρ c) rfl) $$ Hn
  iintro Hn
  iapply (wp_load_out c) $$ Ho
  iintro Ho
  iapply (wp_load_out c) $$ Ho
  iintro Ho
  iapply (wp_store_out c) $$ Ho
  iintro Ho
  iapply (wp_load_slot c 0 1 (wstg m ρ c) rfl) $$ Hn
  iintro Hn
  iapply (wp_load_out c) $$ Ho
  iintro Ho
  rw [WP_ret]
  imodintro
  isplitr; · ipureintro; rfl
  isplitl [Hn]; · iexact Hn
  isplitl [Ho]
  · unfold own1; iexact Ho
  iexact Hb

/-- The part before that, once the histograms are there: the waits for the histograms sent, the tokens kept, and the
    tokens' rows and the device's own weights put in place. -/
theorem body_part5 (c : Dev nD) (g : Vec F S32x128 .i32) (hg : ∀ i : S32x128.Idx, i 0 ≠ c → g i = hbuf m ρ i) (a : Vec F S1024x1024 .f32) (b : Vec F S1024x512 .bf16)
    (f : Buf (Elt F) (cLoc c)) :
    iprop(recs m ρ K ∗ owed c (OR c 0) ∗ bigSep Finset.univ (pre4 m ρ c) ∗ tabPts c g ∗ xPts c (xstg m ρ c) ∗ rowsPts c b ∗ ePts c (wstg m ρ c) ∗ slotPts c 0 f ∗ outPts c a)
      ⊢ WP c (k0_part5 (F := F) xM h0 rM h1 eM h2 oM h3 cM h4 bM h5 hM h6 aM h7 cc0_scratch4 cc0_scratch5 cc0_scratch6 cc0_scratch7 cc0_scratch8 c (meW c) (k0_pay8 (F := F) (rstg m ρ c)) 0#32) fun r =>
          iprop(⌜r = ⟨kpV m ρ c, k0_pay13 (F := F)⟩⌝ ∗ owed c (OR c 0) ∗ bigSep Finset.univ (post4 m ρ c) ∗ tabPts c g ∗ xPts c (xstg m ρ c) ∗ rowsPts c (bxV m ρ c)
            ∗ ePts c (wstg m ρ c) ∗ slotPts c 0 (wbuf (wstg m ρ c)) ∗ outPts c a) := by
  rw [k0_part5_eq_skeleton]
  unfold k0_part5_skel
  iintro ⟨#HR, HO, H4, Ht, Hx, Hb, He, Hs, Ho⟩
  iapply (wp_each m ρ K c k0_t4_loop k0_t4_ok trips4 _ (fun _ => OR c 0) (pre4 m ρ c) (post4 m ρ c)
    (fun k j hk => trip4 m ρ K h0 h1 h2 h3 h4 h5 h6 h7 c (meW c) (k0_pay8 (F := F) (rstg m ρ c)) 0#32 k j hk)) $$ [HO H4]
  · isplitr; · iexact HR
    isplitl [HO] <;> iassumption
  iintro ⟨HO, H4⟩
  simp only [Prog.lift, Prog.bind_op, Prog.bind_ret, Prog.pure_eq_ret]
  iapply (wp_load_tab c) $$ Ht
  iintro Ht
  iapply (wp_load_x c) $$ Hx
  iintro Hx
  iapply (wp_load_rows c) $$ Hb
  iintro Hb
  iapply (wp_store_rows c) $$ Hb
  iintro Hb
  iapply (wp_load_e c) $$ He
  iintro He
  iapply (wp_load_first c) $$ Hs
  iintro Hs
  iapply (wp_store_first c) $$ Hs
  iintro Hs
  iapply (wp_load_out c) $$ Ho
  iintro Ho
  rw [WP_ret]
  imodintro
  isplitr; · ipureintro; rw [kp_congr c _ g (hbuf m ρ) hg]; rfl
  isplitl [HO]; · iexact HO
  isplitl [H4]; · iexact H4
  isplitl [Ht]; · iexact Ht
  isplitl [Hx]; · iexact Hx
  isplitl [Hb]; · unfold bxV; iexact Hb
  isplitl [He]; · iexact He
  isplitl [Hs] <;> iassumption

end Body

end Cert.KernelIdealProof

end
-- ==== Proof.IdealRing.lean ====
/-
The exchange of histograms and the ring as wholes: the buffers whole and in parts, the first part of the kernel, the loop of
the ring with its start and its end.
-/
module

public import proofs.«01_k».proof.Proof.IdealOwn

@[expose] public section

noncomputable section

namespace Cert.KernelIdealProof

open Cert.KernelIdeal Cert.KernelIdeal.Gen Cert.Util

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig ℕ (Elt F) ℕ UU ℕ

variable (m : (ℓ : Loc nD τ sig) → Buf (Elt F) ℓ) (ρ : Dev nD → PrngReg) (K : Dev nD × CK → ℕ)

/-! ## Buffers whole and in parts -/

theorem mem_row (i : S32x128.Idx) (j : Dev nD) : i ∈ rowSet j ↔ i 0 = j := by
  unfold rowSet
  refine Rect.mem_set_unit.trans ⟨fun h => Fin.ext ?_, fun h a => ?_⟩
  · have h0 : j.val ≤ (i 0).val ∧ (i 0).val < j.val + 1 := h 0
    omega
  · subst h
    have := (i a).isLt
    fin_cases a
    · exact ⟨le_refl (i 0).val, Nat.lt_succ_self (i 0).val⟩
    · exact ⟨Nat.zero_le _, lt_of_lt_of_eq this (Nat.zero_add _).symm⟩

theorem mem_slot (i : S2x4x512x1024.Idx) (s : Fin 2) : i ∈ slotSet s ↔ i 0 = s := by
  unfold slotSet
  refine Rect.mem_set_unit.trans ⟨fun h => Fin.ext ?_, fun h a => ?_⟩
  · have h0 : s.val ≤ (i 0).val ∧ (i 0).val < s.val + 1 := h 0
    omega
  · subst h
    have := (i a).isLt
    fin_cases a
    · exact ⟨le_refl (i 0).val, Nat.lt_succ_self (i 0).val⟩
    · exact ⟨Nat.zero_le _, lt_of_lt_of_eq this (Nat.zero_add _).symm⟩
    · exact ⟨Nat.zero_le _, lt_of_lt_of_eq this (Nat.zero_add _).symm⟩
    · exact ⟨Nat.zero_le _, lt_of_lt_of_eq this (Nat.zero_add _).symm⟩

theorem rows_disjoint : ∀ t ∈ (Finset.univ : Finset (Dev nD)), ∀ t' ∈ (Finset.univ : Finset (Dev nD)), t ≠ t' → Disjoint (rowSet t) (rowSet t') :=
  fun t _ t' _ h => Finset.disjoint_left.mpr fun i hi hi' => h (((mem_row i t).mp hi).symm.trans ((mem_row i t').mp hi'))
theorem slots_disjoint : ∀ t ∈ (Finset.univ : Finset (Fin 2)), ∀ t' ∈ (Finset.univ : Finset (Fin 2)), t ≠ t' → Disjoint (slotSet t) (slotSet t') :=
  fun t _ t' _ h => Finset.disjoint_left.mpr fun i hi hi' => h (((mem_slot i t).mp hi).symm.trans ((mem_slot i t').mp hi'))
/-- The communication buffer whole. -/
def comPts (c : Dev nD) (f : Buf (Elt F) (cLoc c)) : sProp 𝕄 := cLoc c ↦{fullShare} f

/-- Pieces that cover a buffer: the buffer is its pieces, -/
theorem split_univ {T : Type} [Fintype T] {ℓ : Loc nD τ sig} (J : T → Finset (Idx ℓ)) (hd : ∀ t ∈ (Finset.univ : Finset T), ∀ t' ∈ (Finset.univ : Finset T), t ≠ t' → Disjoint (J t) (J t'))
    (hc : ∀ i, ∃ t, i ∈ J t) (q) (f : Buf (Elt F) ℓ) : (ℓ ↦{q} f : sProp 𝕄) = bigSep Finset.univ fun t => ℓ ↦[J t]{q} f := by
  rw [← pointsTo_biUnion Finset.univ J hd,
    show Finset.univ.biUnion J = Finset.univ from Finset.eq_univ_iff_forall.mpr fun i => Finset.mem_biUnion.mpr ((hc i).imp fun t h => ⟨Finset.mem_univ t, h⟩)]
/-- and pieces of any contents are the buffer with all of them. -/
theorem join_univ {T : Type} [Fintype T] {ℓ : Loc nD τ sig} (J : T → Finset (Idx ℓ)) (hd : ∀ t ∈ (Finset.univ : Finset T), ∀ t' ∈ (Finset.univ : Finset T), t ≠ t' → Disjoint (J t) (J t'))
    (hc : ∀ i, ∃ t, i ∈ J t) (q) (fs : T → Buf (Elt F) ℓ) (f₀ : Buf (Elt F) ℓ) :
    (bigSep Finset.univ fun t => ℓ ↦[J t]{q} fs t) ⊢ (iprop(∃ g, ⌜∀ t, ∀ i ∈ J t, g i = fs t i⌝ ∗ ℓ ↦{q} g) : sProp 𝕄) := by
  have h := pointsTo_biUnion_join (q := q) (Lvl := ℕ) (Name := ℕ) (U := UU) (Ix := ℕ) Finset.univ J fs f₀ hd
  rw [show Finset.univ.biUnion J = Finset.univ from Finset.eq_univ_iff_forall.mpr fun i => Finset.mem_biUnion.mpr ((hc i).imp fun t h => ⟨Finset.mem_univ t, h⟩)] at h
  refine h.trans ?_
  iintro ⟨%g, %hg, H⟩
  iexists g
  isplitr; · ipureintro; exact fun t => hg t (Finset.mem_univ t)
  iexact H
/-- A buffer is its thirty-two shares. -/
theorem shares32 {ℓ : Loc nD τ sig} (f : Buf (Elt F) ℓ) :
    (ℓ ↦{fullShare} f : sProp 𝕄) = bigSep Finset.univ fun j : Dev nD => ℓ ↦[Finset.univ]{ShareLeaves.leaf 5 fullShare j} f :=
  ShareLeaves.pointsTo_leaves Finset.univ f 5 fullShare

/-- The table is its rows, -/
theorem tab_rows (c : Dev nD) (f : Vec F S32x128 .i32) : (tabPts c f : sProp 𝕄) = bigSep Finset.univ fun j => rowPts c j f :=
  split_univ (ℓ := aLoc c) rowSet rows_disjoint (fun i => ⟨(i : S32x128.Idx) 0, (mem_row i _).mpr rfl⟩) fullShare f
/-- the buffer its slots, -/
theorem com_slots (c : Dev nD) (f : Buf (Elt F) (cLoc c)) : (comPts c f : sProp 𝕄) = iprop(slotPts c 0 f ∗ slotPts c 1 f) :=
  (split_univ (ℓ := cLoc c) slotSet slots_disjoint (fun i => ⟨(i : S2x4x512x1024.Idx) 0, (mem_slot i _).mpr rfl⟩) fullShare f).trans (BI.bigSep_univ_two _)
/-- the histogram its shares; -/
theorem my_shares (c : Dev nD) : (myPts c (hist m ρ c) : sProp 𝕄) = bigSep Finset.univ (histPts m ρ c) := by
  unfold myPts histPts
  exact shares32 (ℓ := hLoc c) (hist m ρ c)
/-- slots with anything in them are the buffer with something in it, -/
theorem slots_join (c : Dev nD) (f g : Buf (Elt F) (cLoc c)) : (iprop(slotPts c 0 f ∗ slotPts c 1 g) : sProp 𝕄) ⊢ iprop(∃ h, comPts c h) := by
  have h := join_univ (ℓ := cLoc c) slotSet slots_disjoint (fun i => ⟨(i : S2x4x512x1024.Idx) 0, (mem_slot i _).mpr rfl⟩) fullShare (fun s => if s = 0 then f else g) f
  rw [BI.bigSep_univ_two, if_pos rfl, if_neg (by decide)] at h
  unfold slotPts comPts
  refine h.trans ?_
  iintro ⟨%k, -, H⟩
  iexists k
  iexact H
/-- and rows holding the histograms, but perhaps the device's own, the table holding them. -/
theorem rows_join (c : Dev nD) :
    (bigSep Finset.univ fun j => iprop(∃ f, ⌜c ≠ j → f = hbuf m ρ⌝ ∗ rowPts c j f) : sProp 𝕄)
      ⊢ iprop(∃ g : Vec F S32x128 .i32, ⌜∀ i : S32x128.Idx, i 0 ≠ c → g i = hbuf m ρ i⌝ ∗ tabPts c g) := by
  have h1 : (bigSep Finset.univ fun j => iprop(∃ f, ⌜c ≠ j → f = hbuf m ρ⌝ ∗ rowPts c j f) : sProp 𝕄)
      ⊢ bigSep Finset.univ fun j => iprop(∃ f : Buf (Elt F) (aLoc c), rowPts c j (if c = j then f else hbuf m ρ)) :=
    BI.bigSep_mono fun j _ => by
      show (iprop(∃ f, ⌜c ≠ j → f = hbuf m ρ⌝ ∗ rowPts c j f) : sProp 𝕄) ⊢ _
      iintro ⟨%f, %hf, H⟩
      iexists f
      by_cases hj : c = j
      · rw [if_pos hj]; iexact H
      · rw [if_neg hj, ← hf hj]; iexact H
  have h2 := BI.bigSep_exists_pi (M := 𝕄) Finset.univ (fun (j : Dev nD) (f : Buf (Elt F) (aLoc c)) => (rowPts c j (if c = j then f else hbuf m ρ) : sProp 𝕄))
  refine h1.trans (h2.trans ?_)
  iintro ⟨%fs, H⟩
  have h3 := join_univ (ℓ := aLoc c) rowSet rows_disjoint (fun i => ⟨(i : S32x128.Idx) 0, (mem_row i _).mpr rfl⟩) fullShare (fun j => if c = j then fs j else hbuf m ρ) (hbuf m ρ)
  unfold rowPts
  ihave H' := h3 $$ H
  icases H' with ⟨%g, %hg, H'⟩
  iexists g
  isplitr
  · ipureintro
    intro i hi
    exact (hg (i 0) i ((mem_row i _).mpr rfl)).trans (congrFun (if_neg (Ne.symm hi)) i)
  · unfold tabPts; iexact H'

/-! ## The exchange of histograms -/

theorem WP_deviceId (c : Dev nD) {α : Type} (kk : Dev nD → Prog (TpuEff nD τ sig (Elt F) Λ₀ .tc) α) (Q : α → sProp 𝕄) :
    WP c (.op .deviceId kk) Q = WP c (kk c) Q := by unfold WP; rw [wp_deviceId]

/-- The wait on the barrier: a row of every other device's table, and the next device's second slot. -/
theorem wp_wait_bar (c : Dev nD) {O : Tal} (hO : Above NN 1 O) {α : Type} {Q : α → sProp 𝕄} {kk : PUnit → Prog (TpuEff nD τ sig (Elt F) Λ₀ .tc) α} :
    iprop(recs m ρ K ∗ cred (tallyAt (cell c kBar) 1 32) ∗ owed c O ∗ atPos ER (cell c kBar) 0 ∅ 0)
      ⊢ iprop(((owed c O ∗ atPos ER (cell c kBar) 1 ∅ 0 ∗ bigSep Finset.univ (barPay (F := F) c)) -∗ WP c (kk ⟨⟩) Q)
          -∗ WP c (.op (.semWait barS (32#32).toNat) kk) Q) := by
  have hw : ∀ Q : PUnit → sProp 𝕄, wpE (defs₀ (F := F)) 𝒱₀ (c : Thread nD τ) none Set.univ (.semWait barS (32#32).toNat) Q = waitSpec (c : Thread nD τ) Set.univ (csem kBar) 32 Q :=
    wpE_semWait_eq 𝒱₀ (c : Thread nD τ) none Set.univ
  unfold owed
  iintro ⟨#HR, Hc, ⟨%W, HO⟩, Hat⟩ Hk
  iapply (Rounds.wp_wait_rest_token 𝒱₀ ER (Rd m ρ) (c : Thread nD τ) none (κ := K (c, kBar)) hw (Set.mem_univ _) 1 (O := O) (W := W) (R := 0) (m := 0) (T := ∅)
      (by rw [Nat.zero_add]; exact (expect_bar m ρ c).symm)) $$ [Hc HO Hat]
  · isplitr; · iapply (recs_inv m ρ K c kBar); iexact HR
    isplitl [Hc]; · iexact Hc
    isplitl [HO]; · iexact HO
    isplitr; · iapply (recs_mayWait m ρ K (by decide : 1 < NN) c kBar hO); iexact HR
    iexact Hat
  iintro ⟨HO, Hat, -, Hp⟩
  ihave Hp := (Entails.of_eq (rest_bar m ρ c)) $$ Hp
  iapply Hk
  isplitl [HO]; · iexists _; iexact HO
  isplitl [Hat]; · iexact Hat
  iexact Hp

/-- What the barrier brings: the rows, and the slot. -/
theorem bar_pays (c : Dev nD) : (bigSep Finset.univ (barPay (F := F) c) : sProp 𝕄)
    ⊢ iprop((bigSep Finset.univ fun p => if p = c then iprop(emp) else iprop(∃ f, rowPts p c f)) ∗ first c 0) := by
  unfold barPay first
  rw [bigSep_sep', if_pos rfl, BI.bigSep_univ_at (fun p => if p = nxt c then iprop(∃ f, slotPts p 1 f) else (iprop(emp) : sProp 𝕄)) (nxt c), if_pos rfl]
  iintro ⟨H, Hs, -⟩
  isplitl [H] <;> iassumption

/-- The two duties a copy of the histogram to device `j` pays. -/
def tok2 (c j : Dev nD) : sProp 𝕄 := iprop(dutyTok ER (cell c (kHs j)) 0 0 ∗ dutyTok ER (cell j (kHr c)) 0 0)
/-- A receive cell's position and the credit of its wait. -/
def at3 (c j : Dev nD) : sProp 𝕄 := iprop(atPos ER (cell c (kHr j)) 0 ∅ 0 ∗ cred (crdH c j))

theorem pre2_intro (c : Dev nD) :
    (iprop((bigSep Finset.univ (histPts m ρ c)) ∗ (bigSep Finset.univ fun p => if p = c then iprop(emp) else iprop(∃ f, rowPts p c f)) ∗ bigSep Finset.univ (tok2 c)) : sProp 𝕄)
      ⊢ bigSep Finset.univ (pre2 m ρ c) := by
  rw [← bigSep_sep', ← bigSep_sep']
  refine BI.bigSep_mono fun j _ => ?_
  show (_ : sProp 𝕄) ⊢ (_ : sProp 𝕄)
  unfold pre2 tok2
  by_cases hj : c = j
  · rw [if_pos hj, if_pos hj.symm]
    iintro ⟨H, -, -⟩
    isplitl [H]; · iexact H
    iempintro
  · rw [if_neg hj, if_neg (Ne.symm hj)]

theorem pre3_intro (c : Dev nD) : (iprop((∃ f, rowPts c c f) ∗ bigSep Finset.univ (at3 c)) : sProp 𝕄) ⊢ bigSep Finset.univ (pre3 c) := by
  refine (sep_mono_left (bigSep_only (M := 𝕄) c fun j => iprop(∃ f, rowPts c j f))).trans ?_
  rw [← bigSep_sep']
  refine BI.bigSep_mono fun j _ => ?_
  show (_ : sProp 𝕄) ⊢ (_ : sProp 𝕄)
  unfold pre3 at3 crdH
  by_cases hj : c = j
  · rw [if_pos hj, if_pos hj.symm]
    iintro ⟨H, Ha, -⟩
    isplitl [Ha] <;> iassumption
  · rw [if_neg hj, if_neg (Ne.symm hj), if_pos (Ne.symm hj)]
    iintro ⟨-, Ha, Hc⟩
    isplitl [Ha] <;> iassumption

/-- The devices before and after, as the kernel computes them. -/
def lfW (c : Dev nD) : BitVec 32 := Scalar.remsi (Scalar.addi (Scalar.subi (meW c) 1#32) 32#32) 32#32
def rgW (c : Dev nD) : BitVec 32 := Scalar.remsi (Scalar.addi (meW c) 1#32) 32#32

section Body

variable (h0 : (xM : Memref sig .tc .vmem S1024x512 .bf16).IsWhole) (h1 : (rM : Memref sig .tc .vmem S1024x1 .i32).IsWhole)
  (h2 : (eM : Memref sig .tc .vmem S4x512x1024 .bf16).IsWhole) (h3 : (oM : Memref sig .tc .vmem S1024x1024 .f32).IsWhole)
  (h4 : (cM : Memref sig .tc .vmem S2x4x512x1024 .bf16).IsWhole) (h5 : (bM : Memref sig .tc .vmem S1024x512 .bf16).IsWhole)
  (h6 : (hM : Memref sig .tc .vmem S1x128 .i32).IsWhole) (h7 : (aM : Memref sig .tc .vmem S32x128 .i32).IsWhole)

/-- The first part: the barrier, the device's histogram, and its exchange with the other devices'. -/
theorem body_part4 (c : Dev nD) (f : Vec F S1x128 .i32) :
    iprop(recs m ρ K ∗ owed c (O₀ c) ∗ bigSep Finset.univ (pre1 c) ∗ cred (tallyAt (cell c kBar) 1 32) ∗ atPos ER (cell c kBar) 0 ∅ 0 ∗ rPts c (rstg m ρ c) ∗ myPts c f
        ∗ bigSep Finset.univ (tok2 c) ∗ (∃ f, rowPts c c f) ∗ bigSep Finset.univ (at3 c))
      ⊢ WP c (k0_part4 (F := F) xM h0 rM h1 eM h2 oM h3 cM h4 bM h5 hM h6 aM h7 cc0_scratch4 cc0_scratch5 cc0_scratch6 cc0_scratch7 cc0_scratch8) fun r =>
          iprop(⌜r = ⟨c, meW c, lfW c, rgW c, rtV m ρ c, k0_pay8 (F := F) (rstg m ρ c), 0#32⟩⌝ ∗ owed c (OR c 0) ∗ atPos ER (cell c kBar) 1 ∅ 0 ∗ first c 0 ∗ rPts c (rstg m ρ c)
            ∗ bigSep Finset.univ (post2 m ρ c) ∗ bigSep Finset.univ (post3 m ρ c)) := by
  rw [k0_part4_eq_skeleton]
  unfold k0_part4_skel
  simp only [semWaitWord, Prog.lift, Prog.bind_op, Prog.bind_ret, Prog.pure_eq_ret]
  rw [WP_deviceId]
  iintro ⟨#HR, HO, H1, Hc, Hat, Hr, Hh, Ht, Hrow, H3⟩
  iapply (wp_each m ρ K c k0_t1_loop k0_t1_ok trips1 _ (fun k => OR c 0 + OH c 0 + OB k) (pre1 c) (fun _ => iprop(emp))
    (fun k j hk => trip1 m ρ K h0 h1 h2 h3 h4 h5 h6 h7 c k j hk (OR c 0 + OH c 0))) $$ [HO H1]
  · isplitr; · iexact HR
    isplitl [HO]; · unfold O₀; iexact HO
    iexact H1
  iintro ⟨HO, -⟩
  rw [OB_end, add_zero]
  iapply (wp_wait_bar m ρ K c (above_add (above_OR c 0 (by decide)) (above_OH c 0 (by decide)))) $$ [Hc HO Hat]
  · isplitr; · iexact HR
    isplitl [Hc]; · iexact Hc
    isplitl [HO] <;> iassumption
  iintro ⟨HO, Hat, Hp⟩
  ihave Hp := (bar_pays (F := F) c) $$ Hp
  icases Hp with ⟨Hrows, Hf⟩
  iapply (wp_load_r c) $$ Hr
  iintro Hr
  iapply (wp_load_my c) $$ Hh
  iintro Hh
  iapply (wp_store_my c) $$ Hh
  iintro Hh
  ihave Hh := (show (myPts c (k0_pay9 (rstg m ρ c)) : sProp 𝕄) ⊢ _ from Entails.of_eq (my_shares m ρ c)) $$ Hh
  ihave H2 := (pre2_intro m ρ c) $$ [Hh Hrows Ht]
  · isplitl [Hh]; · iexact Hh
    isplitl [Hrows] <;> iassumption
  ihave H3 := (pre3_intro (F := F) c) $$ [Hrow H3]
  · isplitl [Hrow] <;> iassumption
  iapply (wp_each m ρ K c k0_t2_loop k0_t2_ok trips2 _ (fun k => OR c 0 + OH c k) (pre2 m ρ c) (post2 m ρ c)
    (fun k j hk => trip2 m ρ K h0 h1 h2 h3 h4 h5 h6 h7 c k j hk (OR c 0))) $$ [HO H2]
  · isplitr; · iexact HR
    isplitl [HO] <;> iassumption
  iintro ⟨HO, H2⟩
  rw [OH_end, add_zero]
  iapply (wp_each m ρ K c k0_t3_loop k0_t3_ok trips3 _ (fun _ => OR c 0) (pre3 c) (post3 m ρ c)
    (fun k j hk => trip3 m ρ K h0 h1 h2 h3 h4 h5 h6 h7 c k j hk)) $$ [HO H3]
  · isplitr; · iexact HR
    isplitl [HO] <;> iassumption
  iintro ⟨HO, H3⟩
  rw [WP_ret]
  imodintro
  isplitr; · ipureintro; rfl
  isplitl [HO]; · iexact HO
  isplitl [Hat]; · iexact Hat
  isplitl [Hf]; · iexact Hf
  isplitl [Hr]; · iexact Hr
  isplitl [H2] <;> iassumption

/-! ## The ring -/

/-- The loop of the ring. -/
theorem wp_ring (c : Dev nD) (v5 v7 : BitVec 32) {α : Type} {Q : α → sProp 𝕄} {kk : Unit → Prog (TpuEff nD τ sig (Elt F) Λ₀ .tc) α} :
    iprop(recs m ρ K ∗ ringAt m ρ c 0)
      ⊢ iprop((ringAt m ρ c 31 -∗ WP c (kk ⟨⟩) Q) -∗ WP c (Scf.Loop.for k0_t5_loop k0_t5_ok ⟨⟩ (k0_t5_body (F := F) xM h0 rM h1 eM h2 oM h3 cM h4 bM h5 hM h6 aM h7 cc0_scratch4 cc0_scratch5 cc0_scratch6 cc0_scratch7 cc0_scratch8 c (meW c) v5 v7 (rtV m ρ c) (kpV m ρ c)) >>= kk) Q) := by
  have hrule := Scf.wp_for_bind frame (wpE (defs₀ (F := F)) 𝒱₀ (c : Thread nD τ) none) Set.univ k0_t5_loop.lb k0_t5_loop.ub k0_t5_loop.st k0_t5_ok (⟨⟩ : Unit)
    (k0_t5_body (F := F) xM h0 rM h1 eM h2 oM h3 cM h4 bM h5 hM h6 aM h7 cc0_scratch4 cc0_scratch5 cc0_scratch6 cc0_scratch7 cc0_scratch8 c (meW c) v5 v7 (rtV m ρ c) (kpV m ρ c))
    (fun k _ => iprop(recs m ρ K ∗ ringAt m ρ c k)) (fun k acc => by
      have hk : k.val < 31 := lt_of_lt_of_eq k.isLt trips5
      have hs := ring_trip m ρ K h0 h1 h2 h3 h4 h5 h6 h7 c v5 v7 k ⟨k.val, hk⟩ rfl
      iintro ⟨#HR, H⟩
      iapply (wp_wand_r frame (wpE (defs₀ (F := F)) 𝒱₀ (c : Thread nD τ) none) Set.univ)
      isplitl [H]
      · iapply hs
        isplitr; · iexact HR
        iexact H
      iintro %_ H
      isplitr; · iexact HR
      iexact H) (kk := kk) (Q := Q)
  refine hrule.trans ?_
  iintro H HK
  iapply H
  iintro %acc ⟨-, H⟩
  rw [show Scf.trips k0_t5_loop.lb k0_t5_loop.ub k0_t5_loop.st = 31 from trips5]
  iapply HK
  iexact H

end Body

/-- The ring's start. -/
theorem ring_start (c : Dev nD) :
    iprop(recs m ρ K ∗ owed c (OR c 0) ∗ atPos ER (cell c kCr) 0 ∅ 0 ∗ bigSep Finset.univ (crd c) ∗ first c 0 ∗ slotPts c 0 (wbuf (wstg m ρ c))
        ∗ (bigSep Finset.univ fun s => atPos ER (cell c (kSnd s)) 0 ∅ 0) ∗ (bigSep Finset.univ fun s => atPos ER (cell c (kRcv s)) 0 ∅ 0)
        ∗ bigSep Finset.univ (trip c) ∗ outPts c (own4 m ρ c) ∗ rowsPts c (bxV m ρ c))
      ⊢ ringAt m ρ c 0 := by
  unfold ringAt crAt final
  rw [BI.bigSep_univ_two, BI.bigSep_univ_two, org_zero, geS_zero, if_neg (by decide)]
  iintro ⟨#HR, HO, Hc, Hcs, Hf, Hs, ⟨H0, H1⟩, ⟨H2, H3⟩, Ht, Ho, Hb⟩
  isplitl [HO]; · iexact HO
  isplitl [Hc Hcs]
  · isplitl [Hc]; · iexact Hc
    iexact Hcs
  isplitl [Hf]; · iexact Hf
  isplitr; · iempintro
  isplitl [Hs]; · iexact Hs
  isplitl [H0]; · iexact H0
  isplitl [H1]; · iexact H1
  isplitr; · iapply (recs_reached m ρ K c (kSnd (par 0))); iexact HR
  isplitr; · iapply (recs_reached m ρ K c (kSnd (par (0 + 1)))); iexact HR
  isplitl [H3]; · iexact H3
  isplitl [H2]; · iexact H2
  isplitr; · iapply (recs_reached m ρ K c (kRcv (par 0))); iexact HR
  isplitl [Ht]; · iexact Ht
  isplitl [Ho]; · iexact Ho
  iexact Hb

/-- The ring's end: nothing owed, the communication buffer whole again, the ring's semaphores at zero. -/
theorem ring_end (c : Dev nD) :
    iprop(recs m ρ K ∗ ringAt m ρ c 31)
      ⊢ (|={Set.univ}=> iprop(owed c 0 ∗ (∃ f, comPts c f) ∗ semVal (cell c kCr) 0 ∗ (bigSep Finset.univ fun s => semVal (cell c (kSnd s)) 0)
          ∗ (bigSep Finset.univ fun s => semVal (cell c (kRcv s)) 0) ∗ outPts c (accV m ρ c 31) ∗ rowsPts c (bxV m ρ c)) : sProp 𝕄) := by
  unfold ringAt crAt final
  rw [BI.bigSep_univ_two, BI.bigSep_univ_two, OR_end, if_pos rfl]
  iintro ⟨#HR, HO, ⟨Hc, -⟩, -, ⟨%f, Hf⟩, Hs, H1, H0, -, -, H2, H3, -, -, Ho, Hb⟩
  imod (close_cell m ρ K c kCr (r := 30) (closed_cr m ρ c)) $$ [Hc] with Hc
  · isplitr; · iexact HR
    iexact Hc
  imod (close_cell m ρ K c (kSnd 1) (r := 15) (closed_snd m ρ c 1)) $$ [H1] with H1
  · isplitr; · iexact HR
    iexact H1
  imod (close_cell m ρ K c (kSnd 0) (r := 16) (closed_snd m ρ c 0)) $$ [H0] with H0
  · isplitr; · iexact HR
    iexact H0
  imod (close_cell m ρ K c (kRcv 0) (r := 15) (closed_rcv m ρ c 0)) $$ [H2] with H2
  · isplitr; · iexact HR
    iexact H2
  imod (close_cell m ρ K c (kRcv 1) (r := 16) (closed_rcv m ρ c 1)) $$ [H3] with H3
  · isplitr; · iexact HR
    iexact H3
  imodintro
  isplitl [HO]; · iexact HO
  isplitl [Hf Hs]
  · iapply (slots_join c f (wbuf (wstg m ρ (org c 31))))
    isplitl [Hf]; · iexact Hf
    iexact Hs
  isplitl [Hc]; · iexact Hc
  isplitl [H0 H1]; · isplitl [H0] <;> iassumption
  isplitl [H2 H3]; · isplitl [H2] <;> iassumption
  isplitl [Ho] <;> iassumption

end Cert.KernelIdealProof

end
-- ==== Proof.IdealBody.lean ====
/-
The kernel on one device: what it starts from, and what it ends with.
-/
module

public import proofs.«01_k».proof.Proof.IdealRing

@[expose] public section

noncomputable section

namespace Cert.KernelIdealProof

open Cert.KernelIdeal Cert.KernelIdeal.Gen Cert.Util

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig ℕ (Elt F) ℕ UU ℕ

variable (m : (ℓ : Loc nD τ sig) → Buf (Elt F) ℓ) (ρ : Dev nD → PrngReg) (K : Dev nD × CK → ℕ)

/-! ## What a device starts from and ends with -/

/-- A statement for every semaphore of the schedule, kind by kind. -/
theorem bigSep_CK (Φ : CK → sProp 𝕄) : bigSep Finset.univ Φ
    = iprop(Φ kBar ∗ Φ kCr ∗ (bigSep Finset.univ fun s => Φ (kSnd s)) ∗ (bigSep Finset.univ fun s => Φ (kRcv s))
        ∗ (bigSep Finset.univ fun j => Φ (kHs j)) ∗ bigSep Finset.univ fun j => Φ (kHr j)) := by
  rw [BI.bigSep_univ_sum, BI.bigSep_univ_sum, BI.bigSep_univ_sum, BI.bigSep_univ_sum, BI.bigSep_univ_sum, bigSep_univ_of_subsingleton (), bigSep_univ_of_subsingleton ()]
  rfl

/-- Its positions, all at the first round; -/
def poss (c : Dev nD) : sProp 𝕄 := bigSep Finset.univ fun k : CK => atPos ER (cell c k) 0 ∅ 0
/-- the duties it pays; -/
def payToks (c : Dev nD) : sProp 𝕄 :=
  iprop((bigSep Finset.univ fun j : Dev nD => dutyTok ER (cell j kBar) 0 c) ∗ bigSep Finset.univ (tok2 (F := F) c)
    ∗ (bigSep Finset.univ fun h : Fin 31 => dutyTok ER (cell c (kSnd (par h.val))) (h.val / 2) 0)
    ∗ (bigSep Finset.univ fun h : Fin 31 => dutyTok ER (cell (nxt c) (kRcv (par (h.val + 1)))) (h.val / 2) 0)
    ∗ bigSep Finset.univ fun h : Fin 31 => dutyTok ER (cell (prv c) kCr) h.val 0)
/-- the credit of its waits. -/
def creds' (c : Dev nD) : sProp 𝕄 :=
  iprop((((bigSep Finset.univ fun h => cred (crdC c h)) ∗ bigSep Finset.univ fun h => cred (crdR c h)) ∗ bigSep Finset.univ fun j => cred (crdH c j))
        ∗ cred (tallyAt (cell c kBar) 1 32))
/-- Its scratch, with anything in it, -/
def scr (c : Dev nD) : sProp 𝕄 :=
  iprop((∃ f, comPts c f) ∗ (∃ f, rowsPts c f) ∗ (∃ f, myPts c f) ∗ ∃ f, tabPts (F := F) c f)
/-- and at the end its semaphores at zero. -/
def zeros (c : Dev nD) : sProp 𝕄 := bigSep Finset.univ fun k : CK => semVal (cell c k) 0

/-- What the signals of the barrier hand over, and the device's own row, which stays. -/
theorem pre1_intro (c : Dev nD) (t : Vec F S32x128 .i32) (f : Buf (Elt F) (cLoc c)) :
    (iprop((bigSep Finset.univ fun j : Dev nD => dutyTok ER (cell j kBar) 0 c) ∗ tabPts c t ∗ slotPts c 1 f) : sProp 𝕄)
      ⊢ iprop(bigSep Finset.univ (pre1 (F := F) c) ∗ ∃ f, rowPts c c f) := by
  have hs : (slotPts c 1 f : sProp 𝕄) ⊢ bigSep Finset.univ fun j : Dev nD => if j = prv c then iprop(∃ f, slotPts c 1 f) else iprop(emp) := by
    refine BI.Entails.trans ?_ (bigSep_only (M := 𝕄) (prv c) fun _ => iprop(∃ f, slotPts c 1 f))
    show (_ : sProp 𝕄) ⊢ (_ : sProp 𝕄)
    iintro H
    iexists f; iexact H
  have hr : (tabPts c t : sProp 𝕄) ⊢ iprop((∃ f, rowPts c c f) ∗ bigSep Finset.univ fun j : Dev nD => if j = c then iprop(emp) else iprop(∃ f, rowPts c j f)) := by
    have hm : (bigSep (Finset.univ.erase c) fun j => rowPts c j t : sProp 𝕄) ⊢ bigSep (Finset.univ.erase c) fun j : Dev nD => if j = c then iprop(emp) else iprop(∃ f, rowPts c j f) :=
      BI.bigSep_mono fun j hj => by
        show (rowPts c j t : sProp 𝕄) ⊢ _
        rw [if_neg (Finset.ne_of_mem_erase hj)]
        iintro H
        iexists t; iexact H
    rw [tab_rows, BI.bigSep_univ_at (fun j => (rowPts c j t : sProp 𝕄)) c,
      BI.bigSep_univ_at (fun j : Dev nD => if j = c then (iprop(emp) : sProp 𝕄) else iprop(∃ f, rowPts c j f)) c, if_pos rfl]
    iintro ⟨H, Hs⟩
    ihave Hs := hm $$ Hs
    isplitl [H]; · iexists t; iexact H
    isplitr; · iempintro
    iexact Hs
  refine (sep_mono_right (sep_mono hr hs)).trans ?_
  have he : (iprop((bigSep Finset.univ fun j : Dev nD => dutyTok ER (cell j kBar) 0 c) ∗ (bigSep Finset.univ fun j : Dev nD => if j = c then iprop(emp) else iprop(∃ f, rowPts c j f))
      ∗ bigSep Finset.univ fun j : Dev nD => if j = prv c then iprop(∃ f, slotPts c 1 f) else iprop(emp)) : sProp 𝕄) ⊢ bigSep Finset.univ (pre1 (F := F) c) := by
    rw [← bigSep_sep', ← bigSep_sep']
    refine BI.bigSep_mono fun j _ => ?_
    show (_ : sProp 𝕄) ⊢ (_ : sProp 𝕄)
    unfold pre1 barPay
    have h1 : (j = c) = (c = j) := propext ⟨Eq.symm, Eq.symm⟩
    have h2 : (j = prv c) = (c = nxt j) := propext ⟨fun h => by rw [h, nxt_prv], fun h => by rw [h, prv_nxt]⟩
    simp only [h1, h2]
    exact BI.Entails.refl _
  iintro ⟨Ht, ⟨Hr, Hrs⟩, Hs⟩
  isplitl [Ht Hrs Hs]
  · iapply he
    isplitl [Ht]; · iexact Ht
    isplitl [Hrs] <;> iassumption
  iexact Hr

theorem pre4_intro (c : Dev nD) :
    (iprop((bigSep Finset.univ fun j => atPos ER (cell c (kHs j)) 0 ∅ 0) ∗ bigSep Finset.univ (post2 m ρ c)) : sProp 𝕄) ⊢ bigSep Finset.univ (pre4 m ρ c) := by
  rw [← bigSep_sep']
  exact BI.Entails.refl _

theorem trips_intro (c : Dev nD) :
    (iprop((bigSep Finset.univ fun h : Fin 31 => dutyTok ER (cell c (kSnd (par h.val))) (h.val / 2) 0)
    ∗ (bigSep Finset.univ fun h : Fin 31 => dutyTok ER (cell (nxt c) (kRcv (par (h.val + 1)))) (h.val / 2) 0)
    ∗ (bigSep Finset.univ fun h : Fin 31 => dutyTok ER (cell (prv c) kCr) h.val 0) ∗ bigSep Finset.univ fun h => cred (crdR c h)) : sProp 𝕄)
      ⊢ bigSep Finset.univ (trip (F := F) c) := by
  rw [← bigSep_sep', ← bigSep_sep', ← bigSep_sep']
  exact BI.Entails.refl _

section Body

variable (h0 : (xM : Memref sig .tc .vmem S1024x512 .bf16).IsWhole) (h1 : (rM : Memref sig .tc .vmem S1024x1 .i32).IsWhole)
  (h2 : (eM : Memref sig .tc .vmem S4x512x1024 .bf16).IsWhole) (h3 : (oM : Memref sig .tc .vmem S1024x1024 .f32).IsWhole)
  (h4 : (cM : Memref sig .tc .vmem S2x4x512x1024 .bf16).IsWhole) (h5 : (bM : Memref sig .tc .vmem S1024x512 .bf16).IsWhole)
  (h6 : (hM : Memref sig .tc .vmem S1x128 .i32).IsWhole) (h7 : (aM : Memref sig .tc .vmem S32x128 .i32).IsWhole)

/-- The kernel on device `c`. -/
theorem body_run (c : Dev nD) (a : Vec F S1024x1024 .f32) :
    iprop(recs m ρ K ∗ owed c (O₀ c) ∗ poss c ∗ payToks (F := F) c ∗ creds' c ∗ scr (F := F) c
        ∗ xPts c (xstg m ρ c) ∗ rPts c (rstg m ρ c) ∗ ePts c (wstg m ρ c) ∗ outPts c a)
      ⊢ WP c (cc0_body (F := F) xM h0 rM h1 eM h2 oM h3 cM h4 bM h5 hM h6 aM h7 cc0_scratch4 cc0_scratch5 cc0_scratch6 cc0_scratch7 cc0_scratch8) fun _ =>
          iprop(owed c 0 ∗ zeros c ∗ scr (F := F) c ∗ xPts c (xstg m ρ c) ∗ rPts c (rstg m ρ c) ∗ ePts c (wstg m ρ c) ∗ outPts c (accV m ρ c 31)) := by
  rw [cc0_body_eq_skeleton]
  unfold cc0_body_skel poss payToks creds' scr zeros
  rw [bigSep_CK, bigSep_CK]
  iintro ⟨#HR, HO, ⟨Habar, Hacr, Hasnd, Harcv, Hahs, Hahr⟩, ⟨Htb, Ht2, Hts, Htr, Htc⟩, ⟨⟨⟨HcC, HcR⟩, HcH⟩, Hcb⟩, ⟨⟨%f0, Hcom⟩, ⟨%f1, Hb⟩, ⟨%f2, Hmy⟩, ⟨%f3, Htab⟩⟩, Hx, Hr, He, Ho⟩
  ihave Hcom := (Entails.of_eq (com_slots c f0)) $$ Hcom
  icases Hcom with ⟨Hs0, Hs1⟩
  ihave H1 := (pre1_intro c f3 f0) $$ [Htb Htab Hs1]
  · isplitl [Htb]; · iexact Htb
    isplitl [Htab] <;> iassumption
  icases H1 with ⟨H1, Hrow⟩
  ihave H3 := (Entails.of_eq (bigSep_sep' Finset.univ (fun j => (atPos ER (cell c (kHr j)) 0 ∅ 0 : sProp 𝕄)) (fun j => cred (crdH c j))).symm) $$ [Hahr HcH]
  · isplitl [Hahr] <;> iassumption
  rw [WP_bind]
  iapply (wp_wand_r frame (wpE (defs₀ (F := F)) 𝒱₀ (c : Thread nD τ) none) Set.univ)
  isplitl [HO H1 Hcb Habar Hr Hmy Ht2 Hrow H3]
  · iapply (body_part4 m ρ K h0 h1 h2 h3 h4 h5 h6 h7 c f2)
    isplitr; · iexact HR
    isplitl [HO]; · iexact HO
    isplitl [H1]; · iexact H1
    isplitl [Hcb]; · iexact Hcb
    isplitl [Habar]; · iexact Habar
    isplitl [Hr]; · iexact Hr
    isplitl [Hmy]; · iexact Hmy
    isplitl [Ht2]; · iexact Ht2
    isplitl [Hrow]; · iexact Hrow
    unfold at3; iexact H3
  iintro %r ⟨%hr, HO, Habar, Hf, Hr, H2, H3⟩
  subst hr
  simp only
  unfold post3
  ihave H3 := (Entails.of_eq (bigSep_sep' Finset.univ (fun j => (semVal (cell c (kHr j)) 0 : sProp 𝕄)) (fun j => iprop(∃ f, ⌜c ≠ j → f = hbuf m ρ⌝ ∗ rowPts c j f)))) $$ H3
  icases H3 with ⟨Hzhr, Hrows⟩
  ihave Htab := (rows_join m ρ c) $$ Hrows
  icases Htab with ⟨%g, %hg, Htab⟩
  ihave H4 := (pre4_intro m ρ c) $$ [Hahs H2]
  · isplitl [Hahs] <;> iassumption
  imod (close_cell m ρ K c kBar (r := 1) (closed_bar m ρ c)) $$ [Habar] with Hzb
  · isplitr; · iexact HR
    iexact Habar
  first | rw [wp_bind] | rw [WP_bind]
  iapply (wp_wand_r frame (wpE (defs₀ (F := F)) 𝒱₀ (c : Thread nD τ) none) Set.univ)
  isplitl [HO H4 Htab Hx Hb He Hs0 Ho]
  · iapply (body_part5 m ρ K h0 h1 h2 h3 h4 h5 h6 h7 c g hg a f1 f0)
    isplitr; · iexact HR
    isplitl [HO]; · iexact HO
    isplitl [H4]; · iexact H4
    isplitl [Htab]; · iexact Htab
    isplitl [Hx]; · iexact Hx
    isplitl [Hb]; · iexact Hb
    isplitl [He]; · iexact He
    isplitl [Hs0] <;> iassumption
  iintro %r ⟨%hr, HO, H4, Htab, Hx, Hb, He, Hs0, Ho⟩
  subst hr
  simp only
  unfold post4
  ihave H4 := (Entails.of_eq (bigSep_sep' Finset.univ (fun j => (semVal (cell c (kHs j)) 0 : sProp 𝕄)) (histPts m ρ c))) $$ H4
  icases H4 with ⟨Hzhs, Hmy⟩
  ihave Hmy := (Entails.of_eq (my_shares m ρ c).symm) $$ Hmy
  first | rw [wp_bind] | rw [WP_bind]
  iapply (wp_wand_r frame (wpE (defs₀ (F := F)) 𝒱₀ (c : Thread nD τ) none) Set.univ)
  isplitl [Hs0 Ho Hb]
  · iapply (body_part6 m ρ h0 h1 h2 h3 h4 h5 h6 h7 c a)
    isplitl [Hs0]; · iexact Hs0
    isplitl [Ho] <;> iassumption
  iintro %r ⟨%hr, Hs0, Ho, Hb⟩
  subst hr
  simp only
  first | rw [wp_bind] | rw [WP_bind]
  iapply (wp_wand_r frame (wpE (defs₀ (F := F)) 𝒱₀ (c : Thread nD τ) none) Set.univ)
  isplitl [Hs0 Ho]
  · iapply (body_part7 m ρ h0 h1 h2 h3 h4 h5 h6 h7 c (own1 m ρ c))
    isplitl [Hs0] <;> iassumption
  iintro %_ ⟨Hs0, Ho⟩
  ihave Hts := (trips_intro c) $$ [Hts Htr Htc HcR]
  · isplitl [Hts]; · iexact Hts
    isplitl [Htr]; · iexact Htr
    isplitl [Htc] <;> iassumption
  iapply (wp_ring m ρ K h0 h1 h2 h3 h4 h5 h6 h7 c (lfW c) (rgW c)) $$ [HO Hacr HcC Hf Hs0 Hasnd Harcv Hts Ho Hb]
  · isplitr; · iexact HR
    iapply (ring_start m ρ K c)
    isplitr; · iexact HR
    isplitl [HO]; · iexact HO
    isplitl [Hacr]; · iexact Hacr
    isplitl [HcC]; · iexact HcC
    isplitl [Hf]; · iexact Hf
    isplitl [Hs0]; · iexact Hs0
    isplitl [Hasnd]; · iexact Hasnd
    isplitl [Harcv]; · iexact Harcv
    isplitl [Hts]; · iexact Hts
    isplitl [Ho] <;> iassumption
  iintro H
  imod (ring_end m ρ K c) $$ [H] with ⟨HO, Hcom, Hzc, Hzs, Hzr, Ho, Hb⟩
  · isplitr; · iexact HR
    iexact H
  simp only [Prog.pure_eq_ret]
  first | rw [wp_ret] | rw [WP_ret]
  imodintro
  isplitl [HO]; · iexact HO
  isplitl [Hzb Hzc Hzs Hzr Hzhs Hzhr]
  · isplitl [Hzb]; · iexact Hzb
    isplitl [Hzc]; · iexact Hzc
    isplitl [Hzs]; · iexact Hzs
    isplitl [Hzr]; · iexact Hzr
    isplitl [Hzhs] <;> iassumption
  isplitl [Hcom Hb Hmy Htab]
  · isplitl [Hcom]; · iexact Hcom
    isplitl [Hb]; · iexists _; iexact Hb
    isplitl [Hmy]; · iexists _; iexact Hmy
    iexists _; iexact Htab
  isplitl [Hx]; · iexact Hx
  isplitl [Hr]; · iexact Hr
  isplitl [He] <;> iassumption

end Body

end Cert.KernelIdealProof

end
-- ==== Proof.IdealBind.lean ====
/-
The launch: the ghost state of the schedule is made, dealt to the devices, and the run of the whole mesh follows from
the body on each device.
-/
module

public import proofs.«01_k».proof.Proof.IdealBody
public import proofs.«01_k».proof.Proof.Gen.KernelIdeal.Points

@[expose] public section

noncomputable section

namespace Cert.KernelIdealProof

open Cert.KernelIdeal Cert.KernelIdeal.Gen Cert.Util

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig ℕ (Elt F) ℕ UU ℕ

variable (m : (ℓ : Loc nD τ sig) → Buf (Elt F) ℓ) (ρ : Dev nD → PrngReg) (K : Dev nD × CK → ℕ)
open Idealize.ShloMosaic.SiteBlocks (L lv)
open Idealize.ShloMosaic.Pipeline (Dat BodyObligation)

/-! ## What the pipeline is told -/

/-- The names of every invariant, at device `c`: the cells' invariants and first rounds, and what is `c`'s own. -/
def records (K : Dev nD × CK → ℕ) : sProp 𝕄 :=
  iprop((bigSep Finset.univ fun ck : Dev nD × CK => cellInv ER (Rd m ρ) (K ck) (kcell ck)) ∗ bigSep Finset.univ fun ck : Dev nD × CK => reached ER (kcell ck) 0)

instance records_persistent (K : Dev nD × CK → ℕ) : BI.Persistent (records m ρ K) := by unfold records; infer_instance

def G' (c : Dev nD) : sProp 𝕄 := iprop(∃ K, records m ρ K ∗ poss c ∗ payToks c)

/-- What device `c`'s body starts from; -/
def start (c : Dev nD) : sProp 𝕄 := iprop(G' m ρ c ∗ creds' c ∗ levAts (L NN) lv)
def Φ₀ (c : Dev nD) : sProp 𝕄 := iprop(start m ρ c ∗ scr c)
/-- and what it leaves besides the result. -/
def Φ₁ (c : Dev nD) : sProp 𝕄 := iprop(scr c ∗ zeros c)

def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => xstg m ρ c
    | ⟨1, _⟩ => rstg m ρ c
    | ⟨2, _⟩ => wstg m ρ c
    | ⟨3, _⟩ => accV m ρ c 31
  Φ t := match t with
    | ⟨0, _⟩ => Φ₀ m ρ c
    | ⟨_ + 1, _⟩ => Φ₁ c
  q _ := fullShare
  owed t := match t with
    | ⟨0, _⟩ => O₀ c
    | ⟨_ + 1, _⟩ => 0

theorem fetch_0 (t : Fin cfg0.N) : (cfg0.win (0 : Fin 4)).fetch t = true := by rw [fin_N0 t]; rfl
theorem fetch_1 (t : Fin cfg0.N) : (cfg0.win (1 : Fin 4)).fetch t = true := by rw [fin_N0 t]; rfl
theorem fetch_2 (t : Fin cfg0.N) : (cfg0.win (2 : Fin 4)).fetch t = true := by rw [fin_N0 t]; rfl

theorem owns_whole_eq (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

def stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

set_option maxRecDepth 4000 in
def bodyPre (c : Dev nD) : sProp 𝕄 :=
  iprop(Φ₀ m ρ c ∗ (dats m ρ 0 c).owesAt 0 t0_0.castSucc
    ∗ (∃ d, stg c cc0_stg0_0 ((dats m ρ 0 c).before (0 : Fin 4) t0_0 d)) ∗ (∃ d, stg c cc0_stg1_0 ((dats m ρ 0 c).before (1 : Fin 4) t0_0 d))
    ∗ (∃ d, stg c cc0_stg2_0 ((dats m ρ 0 c).before (2 : Fin 4) t0_0 d)) ∗ (∃ d, stg c cc0_stg3_0 ((dats m ρ 0 c).before (3 : Fin 4) t0_0 d)))

set_option maxRecDepth 4000 in
def bodyPost (c : Dev nD) : sProp 𝕄 :=
  iprop(Φ₁ (F := F) c ∗ (dats m ρ 0 c).owesAt 0 t0_0.succ
    ∗ stg c cc0_stg0_0 (xstg m ρ c) ∗ stg c cc0_stg1_0 (rstg m ρ c) ∗ stg c cc0_stg2_0 (wstg m ρ c) ∗ stg c cc0_stg3_0 (accV m ρ c 31))

set_option maxRecDepth 4000 in
/-- The body at the one point of the pipeline. -/
theorem body_obligation (c : Dev nD) : BodyObligation (dats (F := F) m ρ 0 c) (defs₀ (F := F)) 𝒱₀ 0 Set.univ := fun t => by
  rw [fin_N0 t]
  rw [bigSep_W0, bigSep_W0]
  simp only [owns_whole_eq]
  show bodyPre m ρ c ⊢ wp frame (wpE (defs₀ (F := F)) 𝒱₀ (c : Thread nD τ) none) Set.univ (bodyAt0 (F := F) t0_0) fun _ => bodyPost m ρ c
  unfold bodyPre Φ₀ start G' records stg Dat.owesAt Pipeline.owesWithin
  iintro ⟨⟨⟨⟨%K, ⟨#HI, #HR⟩, Hp, Ht⟩, Hc, #HL⟩, Hs⟩, ⟨%W, %hW, HO⟩, ⟨%d0, %g0, %e0, H0⟩, ⟨%d1, %g1, %e1, H1⟩, ⟨%d2, %g2, %e2, H2⟩, ⟨%d3, %g3, %e3, H3⟩⟩
  have hx : g0 = xstg m ρ c := by rw [e0]; unfold Dat.before; rw [if_pos (fetch_0 t0_0)]; rfl
  have hr : g1 = rstg m ρ c := by rw [e1]; unfold Dat.before; rw [if_pos (fetch_1 t0_0)]; rfl
  have hw : g2 = wstg m ρ c := by rw [e2]; unfold Dat.before; rw [if_pos (fetch_2 t0_0)]; rfl
  subst hx; subst hr; subst hw
  rw [show (dats m ρ 0 c).owed t0_0.castSucc = O₀ c from rfl]
  iapply (wp_wand_r frame (wpE (defs₀ (F := F)) 𝒱₀ (c : Thread nD τ) none) Set.univ)
  isplitl [Hp Ht Hc Hs HO H0 H1 H2 H3]
  · iapply (body_run m ρ K _ _ _ _ _ _ _ _ c g3)
    isplitr
    · unfold recs
      isplitr; · iexact HI
      isplitr; · iexact HR
      iexact HL
    isplitl [HO]; · unfold owed; iexists W; iexact HO
    isplitl [Hp]; · iexact Hp
    isplitl [Ht]; · iexact Ht
    isplitl [Hc]; · iexact Hc
    isplitl [Hs]; · iexact Hs
    isplitl [H0]; · unfold xPts; iexact H0
    isplitl [H1]; · unfold rPts; iexact H1
    isplitl [H2]; · unfold ePts; iexact H2
    unfold outPts; iexact H3
  unfold owed
  iintro %r ⟨⟨%W', HO⟩, Hz, Hs, H0, H1, H2, H3⟩
  unfold bodyPost Φ₁ stg Dat.owesAt Pipeline.owesWithin
  rw [show (dats m ρ 0 c).owed t0_0.succ = 0 from rfl]
  isplitl [Hs Hz]; · isplitl [Hs] <;> iassumption
  isplitl [HO]
  · iexists W'
    isplitr; · ipureintro; exact fun _ _ => Or.inl trivial
    iexact HO
  isplitl [H0]
  · iexists _; isplitr; · (ipureintro; rfl)
    unfold xPts; iexact H0
  isplitl [H1]
  · iexists _; isplitr; · (ipureintro; rfl)
    unfold rPts; iexact H1
  isplitl [H2]
  · iexists _; isplitr; · (ipureintro; rfl)
    unfold ePts; iexact H2
  iexists _; isplitr; · (ipureintro; rfl)
  unfold outPts; iexact H3

end Cert.KernelIdealProof

end
-- ==== Proof.IdealGhost.lean ====
/-
The ghost state of the schedule: made at the launch, dealt to the devices.
-/
module

public import proofs.«01_k».proof.Proof.IdealBind

@[expose] public section

noncomputable section

namespace Cert.KernelIdealProof

open Cert.KernelIdeal Cert.KernelIdeal.Gen Cert.Util

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig ℕ (Elt F) ℕ UU ℕ

variable (m : (ℓ : Loc nD τ sig) → Buf (Elt F) ℓ) (ρ : Dev nD → PrngReg) (K : Dev nD × CK → ℕ)
open Idealize.ShloMosaic.SiteBlocks (L lv)

/-! ## The cells and the tokens -/

theorem ownSemFacts : Pipeline.OwnSemFacts cfg0.spec osem where
  isScoped := by decide
  inj := fun a b h => Sum.inr_injective (csem_injective (a₁ := Sum.inr a) (a₂ := Sum.inr b) h)
  disj := by decide

theorem kcell_injective : Function.Injective (kcell : Dev nD × CK → GSem nD τ sig) := fun ⟨_, _⟩ ⟨_, _⟩ h => by
  obtain ⟨h1, h2⟩ := cell_inj h
  exact Prod.ext h1 h2
def ringCells : Finset (GSem nD τ sig) := Finset.univ.map ⟨kcell, kcell_injective⟩

/-- The duties on one device's cells. -/
abbrev TK : Type := Dev nD ⊕ (Fin 31 ⊕ (Fin 31 ⊕ (Dev nD ⊕ (Dev nD ⊕ Fin 31))))
def tk : TK → CK × ℕ × Dev nD
  | .inl p => (kBar, 0, p)
  | .inr (.inl h) => (kSnd (par h.val), h.val / 2, 0)
  | .inr (.inr (.inl h)) => (kRcv (par (h.val + 1)), h.val / 2, 0)
  | .inr (.inr (.inr (.inl j))) => (kHs j, 0, 0)
  | .inr (.inr (.inr (.inr (.inl j)))) => (kHr j, 0, 0)
  | .inr (.inr (.inr (.inr (.inr h)))) => (kCr, h.val, 0)

theorem par_half {h h' : ℕ} (hp : par h = par h') (hd : h / 2 = h' / 2) : h = h' := by
  have : h % 2 = h' % 2 := congrArg Fin.val hp
  omega
theorem tk_injective : Function.Injective tk := by
  rintro (p | h | h | j | j | h) (p' | h' | h' | j' | j' | h') e <;> simp only [tk, Prod.mk.injEq, Sum.inl.injEq, Sum.inr.injEq, reduceCtorEq, false_and, and_true, true_and] at e ⊢
  · exact e
  · exact Fin.ext (par_half e.1 e.2)
  · exact Fin.ext (by have hh := par_half (h := h.val + 1) (h' := h'.val + 1) e.1; have := congrArg Fin.val e.1; simp only [par] at this; omega)
  · exact e
  · exact e
  · exact Fin.ext e

def tokOf (ct : Dev nD × TK) : GSem nD τ sig × ℕ × Dev nD := (cell ct.1 (tk ct.2).1, (tk ct.2).2.1, (tk ct.2).2.2)
theorem tokOf_injective : Function.Injective tokOf := fun ⟨c, t⟩ ⟨c', t'⟩ h => by
  obtain ⟨h1, h2⟩ := cell_inj (congrArg Prod.fst h)
  have h3 := congrArg Prod.snd h
  exact Prod.ext h1 (tk_injective (Prod.ext h2 h3))
def ringToks : Finset (GSem nD τ sig × ℕ × Dev nD) := Finset.univ.map ⟨tokOf, tokOf_injective⟩

def u₀ : UU := (initOf (Pipeline.cells cfgs cellOf_inj) (Pipeline.launchToks cfgs cellOf_inj), initOf ringCells ringToks)

/-- The tokens of the duties on device `c`'s cells. -/
def toks (c : Dev nD) : sProp 𝕄 := bigSep Finset.univ fun t : TK => dutyTok ER (cell c (tk t).1) (tk t).2.1 (tk t).2.2

/-- What the launch deals device `c`. -/
def G (c : Dev nD) : sProp 𝕄 :=
  iprop((bigSep Finset.univ fun k : CK => roundState ER (Rd m ρ) (kcell (c, k)) 0)
    ∗ (bigSep Finset.univ fun k : CK => iprop(atPos ER (kcell (c, k)) 0 ∅ 0 ∗ reached ER (kcell (c, k)) 0)) ∗ toks c)

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : CK => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]; rfl
  iintro HX
  imod (Rounds.fund ER (Rd m ρ) ringCells ringToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The cells' invariants -/

/-- The barrier is the one semaphore of a device that no call owns. -/
theorem unscopedSems0_eq (c : Dev nD) : (unscopedSems0 c : sProp 𝕄) = semVal (cell c kBar) 0 := by
  unfold unscopedSems0; rw [bigSep_eq_bigSepL_of_eq [SemLoc.reg barS] (by decide) (by decide)]; rfl

theorem zeros_eq (c : Dev nD) : (zeros c : sProp 𝕄) = iprop(unscopedSems0 c ∗ Pipeline.ownSems0 osem c) := by
  unfold zeros Pipeline.ownSems0
  rw [unscopedSems0_eq, BI.bigSep_univ_sum, bigSep_univ_of_subsingleton ()]
  rfl

theorem core_alloc (c : Dev nD) :
    iprop(Pipeline.ownSems0 (Ix := ℕ) (Name := ℕ) (U := UU) (Lvl := ℕ) (Val := Elt F) (τ := τ) osem c ∗ unscopedSems0 c ∗ G m ρ c)
      ⊢ |={Set.univ}=> iprop((bigSep Finset.univ fun k : CK => iprop(∃ κ : ℕ, cellInv ER (Rd m ρ) κ (kcell (c, k))))
          ∗ (bigSep Finset.univ fun k : CK => iprop(atPos ER (kcell (c, k)) 0 ∅ 0 ∗ reached ER (kcell (c, k)) 0)) ∗ toks c) := by
  unfold G
  iintro ⟨Hos, Hus, Hst, Hat, Htok⟩
  ihave Hv := (Entails.of_eq (zeros_eq (F := F) c).symm) $$ [Hos Hus]
  · isplitl [Hus] <;> iassumption
  unfold zeros
  imod (show iprop((bigSep Finset.univ fun k : CK => semVal (cell c k) 0) ∗ bigSep Finset.univ fun k : CK => roundState ER (Rd m ρ) (kcell (c, k)) 0)
      ⊢ (|={Set.univ}=> bigSep Finset.univ fun k : CK => iprop(∃ κ : ℕ, cellInv ER (Rd m ρ) κ (kcell (c, k))) : sProp 𝕄) from by
        rw [← bigSep_sep']
        exact (bigSep_mono fun k _ => (Rounds.body_intro ER (Rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- Two conjunctions over devices change places. -/
theorem bigSep_swap (Φ : Dev nD → Dev nD → sProp 𝕄) :
    (bigSep Finset.univ fun c => bigSep Finset.univ fun p => Φ c p) = bigSep Finset.univ fun p => bigSep Finset.univ fun c => Φ c p := by
  rw [← bigSep_univ_prod (fun cp : Dev nD × Dev nD => Φ cp.1 cp.2), ← bigSep_univ_prod (fun pc : Dev nD × Dev nD => Φ pc.2 pc.1),
    bigSep_univ_equiv (Equiv.prodComm (Dev nD) (Dev nD)) (fun cp : Dev nD × Dev nD => Φ cp.1 cp.2)]
  rfl

/-- The tokens go to the devices that pay the duties: the barrier's and the histograms' to the signalling and the
    sending device, the slots' to the device before, the credit's to the device after. -/
theorem toks_around : (bigSep Finset.univ fun c : Dev nD => (toks c : sProp 𝕄)) ⊢ bigSep Finset.univ fun c : Dev nD => payToks c := by
  unfold toks payToks tok2
  have e : ∀ c : Dev nD, (bigSep Finset.univ fun t : TK => (dutyTok ER (cell c (tk t).1) (tk t).2.1 (tk t).2.2 : sProp 𝕄))
      = iprop((bigSep Finset.univ fun p : Dev nD => dutyTok ER (cell c kBar) 0 p) ∗ (bigSep Finset.univ fun h : Fin 31 => dutyTok ER (cell c (kSnd (par h.val))) (h.val / 2) 0)
        ∗ (bigSep Finset.univ fun h : Fin 31 => dutyTok ER (cell c (kRcv (par (h.val + 1)))) (h.val / 2) 0)
        ∗ (bigSep Finset.univ fun j : Dev nD => dutyTok ER (cell c (kHs j)) 0 0) ∗ (bigSep Finset.univ fun j : Dev nD => dutyTok ER (cell c (kHr j)) 0 0)
        ∗ bigSep Finset.univ fun h : Fin 31 => dutyTok ER (cell c kCr) h.val 0) := fun c => by
    rw [BI.bigSep_univ_sum, BI.bigSep_univ_sum, BI.bigSep_univ_sum, BI.bigSep_univ_sum, BI.bigSep_univ_sum]; rfl
  rw [bigSep_congr (s := Finset.univ) fun c _ => e c]
  simp only [bigSep_sep']
  rw [bigSep_swap (fun c p : Dev nD => (dutyTok ER (cell c kBar) 0 p : sProp 𝕄)),
    bigSep_swap (fun c j : Dev nD => (dutyTok ER (cell c (kHr j)) 0 0 : sProp 𝕄)),
    bigSep_univ_equiv ring (fun c : Dev nD => bigSep Finset.univ fun h : Fin 31 => (dutyTok ER (cell c (kRcv (par (h.val + 1)))) (h.val / 2) 0 : sProp 𝕄)),
    bigSep_univ_equiv ring.symm (fun c : Dev nD => bigSep Finset.univ fun h : Fin 31 => (dutyTok ER (cell c kCr) h.val 0 : sProp 𝕄))]
  iintro ⟨H1, H2, H3, H4, H5, H6⟩
  isplitl [H1]; · iexact H1
  isplitl [H4 H5]
  · isplitl [H4] <;> iassumption
  isplitl [H2]; · iexact H2
  isplitl [H3]; · iexact H3
  iexact H6

theorem ghost_intro (K : Dev nD × CK → ℕ) (c : Dev nD) : iprop(records m ρ K ∗ (poss c ∗ payToks c)) ⊢ G' m ρ c := by
  unfold G'
  iintro ⟨HR, H⟩
  iexists K
  isplitl [HR] <;> iassumption

theorem regroup :
    (bigSep Finset.univ fun c : Dev nD => iprop((bigSep Finset.univ fun k : CK => iprop(∃ κ : ℕ, cellInv ER (Rd m ρ) κ (kcell (c, k))))
          ∗ (bigSep Finset.univ fun k : CK => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × CK => iprop(∃ κ : ℕ, cellInv ER (Rd m ρ) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄))]
  classical
  iintro ⟨HI, ⟨Hat, #HR⟩, Htok⟩
  ihave HK := (BI.bigSep_exists_pi Finset.univ (fun (ck : Dev nD × CK) (κ : ℕ) => (cellInv ER (Rd m ρ) κ (kcell ck) : sProp 𝕄))) $$ HI
  icases HK with ⟨%K, #HI⟩
  ihave Htk := (toks_around (F := F)) $$ Htok
  iapply (bigSep_with (R := records m ρ K) fun c _ => ghost_intro m ρ K c)
  isplitr
  · unfold records; isplitl; · iexact HI
    iexact HR
  · iapply (Entails.of_eq (bigSep_sep' Finset.univ (fun c : Dev nD => (poss c : sProp 𝕄)) payToks).symm)
    isplitl [Hat]; · unfold poss; iexact Hat
    iexact Htk

/-- All the devices' cells at once. -/
theorem glob : (bigSep Finset.univ fun c => iprop(Pipeline.ownSems0 (Ix := ℕ) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

end Cert.KernelIdealProof

end
-- ==== Proof.IdealRun.lean ====
/-
The run of the whole mesh: every device ends with its result, and its arguments as they were.
-/
module

public import proofs.«01_k».proof.Proof.IdealGhost
public import Idealize.ShloMosaic.Lib.Pipeline.CollectiveSegs

@[expose] public section

noncomputable section

namespace Cert.KernelIdealProof

open Cert.KernelIdeal Cert.KernelIdeal.Gen Cert.Util

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig ℕ (Elt F) ℕ UU ℕ

variable (m : (ℓ : Loc nD τ sig) → Buf (Elt F) ℓ) (ρ : Dev nD → PrngReg) (K : Dev nD × CK → ℕ)
open Idealize.ShloMosaic.SiteBlocks (L lv)
open Idealize.ShloMosaic.Pipeline (Dat)

/-! ## The launch's conditions -/

theorem share_eq (c : Dev nD) (w : Fin cfg0.W) : (dats m ρ 0 c).share w = fullShare := by unfold Dat.share; split <;> rfl

theorem levels_off (g : GSem nD τ sig) (hg : g.1.2 ≠ .tc) : L NN g = ∅ := if_neg hg

/-- The one buffer that no call of the kernel touches: the router's weights. -/
def idle (c : Dev nD) : sProp 𝕄 := ((c : Thread nD τ).loc main_arg1) ↦{fullShare} m ((c : Thread nD τ).loc main_arg1)

theorem start_intro (c : Dev nD) :
    iprop(Pipeline.unscopedRestP Pipeline.Prefetch.none cfg0.spec c (fun b => m ((c : Thread nD τ).loc b)) ∗ levAts (L NN) lv
        ∗ Pipeline.launchCred O₀ c ∗ prngReg c (ρ c) ∗ G' m ρ c)
      ⊢ |={Set.univ}=> iprop(start m ρ c ∗ idle m c) := by
  rw [Pipeline.unscopedRestP_none]
  iintro ⟨Hr, Hlev, Hcr, -, HG⟩
  ihave Hc := (Entails.of_eq (creds (F := F) c)) $$ Hcr
  ihave Hi := (Entails.of_eq (unscopedRest0_eq (Ix := ℕ) (Name := ℕ) (U := UU) (Lvl := ℕ) c (fun b => m ((c : Thread nD τ).loc b)))) $$ Hr
  imodintro
  unfold start creds' idle
  isplitr [Hi]
  · isplitl [HG]; · iexact HG
    isplitl [Hc]; · iexact Hc
    iexact Hlev
  · iexact Hi

theorem scr_eq (c : Dev nD) : (Pipeline.scopedRest (Ix := ℕ) (Name := ℕ) (U := UU) (Lvl := ℕ) (Val := Elt F) cfg0.spec c : sProp 𝕄) = scr c :=
  scopedRest0_eq c

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scr_eq]
  unfold Φ₀
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scr_eq]
  unfold Φ₁
  rw [zeros_eq]
  iintro ⟨Hr, HzB, Hz⟩
  isplitl [HzB]; · iexact HzB
  isplitl [Hz] <;> iassumption

theorem waits (c : Dev nD) : (levAts (L NN) lv : sProp 𝕄) ⊢ Pipeline.cellsWaits cfgs (dats m ρ) 0 0 c :=
  Pipeline.cellsWaits_intro cfgs (dats m ρ) 0 0 c fun w s t =>
    mayWait (by decide) c _ (by
      rcases t with ⟨_ | _, ht⟩
      · exact above_O₀ c
      · exact above_zero NN 0)

/-! ## The run -/

def finalA (c : Dev nD) (w : Fin cfg0.W) : Buf (Elt F) ((cfg0.win w).arr.view.loc (c : Thread nD τ)) := (dats m ρ 0 c).arrAt w cfg0.N

/-- Every window's array ends at what the pipeline wrote to it, and the router's weights as they were. -/
def QC : PUnit × MemSt nD τ sig (Elt F) → Prop := fun r =>
  ∀ c : Dev nD, (∀ w : Fin cfg0.W, r.2.mem ((cfg0.win w).arr.view.loc (c : Thread nD τ)) = finalA m ρ c w)
    ∧ r.2.mem ((c : Thread nD τ).loc main_arg1) = m ((c : Thread nD τ).loc main_arg1)

def QY (c : Dev nD) (s : MemSt nD τ sig (Elt F)) : Prop :=
  s.mem ((c : Thread nD τ).loc main_arg1) = m ((c : Thread nD τ).loc main_arg1) ∧ ∀ sm : SemLoc sig, sm.isScoped .tc = false → s.sem ((c.tc : Thread nD τ), sm) = 0

theorem read_end (c : Dev nD) (s' : Phys nD τ sig (Elt F)) :
    iprop(unscopedSems0 c ∗ idle m c ∗ SI s') ⊢ (|={Set.univ}=> iprop(⌜QY m c s'.mem⌝ ∗ SI s') : sProp 𝕄) := by
  unfold idle
  iintro ⟨Hu, Hi, HSI⟩
  ihave %hi := (SI_pointsTo_agree) $$ [HSI Hi]
  · isplitl [HSI] <;> iassumption
  imod (Pipeline.unscopedSems0_read (X := unscopedSems0 c) (c := c) fupd_intro s') $$ [Hu HSI] with ⟨%hz, HSI⟩
  · isplitl [Hu] <;> iassumption
  imodintro
  isplitr; · ipureintro; exact ⟨funext fun i => hi i (Finset.mem_univ i), hz⟩
  iexact HSI

set_option maxRecDepth 8000 in
/-- From any memory with zero counters, for any float values, every weakly fair execution of the program on the mesh
    terminates; every device's arrays end as `QC` says, and every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L NN) (lv := lv) (hL := levels_off) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := idle m)
    (hX := start_intro m ρ) (hin := phi0_intro m ρ) (hout := phi1_exit m ρ)
    (QY := QY m) (hY := read_end m)
    (hQ := fun _ h hs => ⟨fun c => ⟨(h c).1, (h c).2.2.1⟩, sem_eq_zero hs fun c => (h c).2.2.2⟩)

/-- The arrays of the windows that are only read end as they were; -/
theorem finalA_0 (c : Dev nD) : finalA m ρ c (0 : Fin 4) = m ((c : Thread nD τ).loc main_arg0) := (dats (F := F) m ρ 0 c).arrAt_in (0 : Fin 4) rfl _
theorem finalA_1 (c : Dev nD) : finalA m ρ c (1 : Fin 4) = m ((c : Thread nD τ).loc main_arg2) := (dats (F := F) m ρ 0 c).arrAt_in (1 : Fin 4) rfl _
theorem finalA_2 (c : Dev nD) : finalA m ρ c (2 : Fin 4) = m ((c : Thread nD τ).loc main_arg3) := (dats (F := F) m ρ 0 c).arrAt_in (2 : Fin 4) rfl _
/-- the result's holds what the last hop left. -/
theorem finalA_3 (c : Dev nD) : finalA m ρ c (3 : Fin 4) = accV m ρ c 31 := by
  have h : (win0_3.blk (0 : Fin 1)).view.read (Elt F) (finalA m ρ c (3 : Fin 4)) = accV m ρ c 31 := by
    unfold finalA
    rw [show cfg0.N = ((0 : Fin 1) : Fin cfg0.N).val + 1 from rfl, (dats m ρ 0 c).arrAt_succ (3 : Fin 4) (0 : Fin 1)]
    rw [show (cfg0.win (3 : Fin 4)).flush (0 : Fin 1) = true from by decide, if_pos rfl]
    exact View.read_write_univ _ _
  have hz : (fun a => (win0_3.index (0 : Fin 1)) a * main_v1.ty.shape.size a) = fun _ => 0 := funext fun a => by fin_cases a <;> decide
  exact (Memref.read_access_unit_zero (Elt F) main_v1 hz (fun a => by fin_cases a <;> decide) (finalA m ρ c (3 : Fin 4))).symm.trans h

/-- And what the body read of the arguments is the arguments. -/
theorem xstg_eq (c : Dev nD) : xstg m ρ c = m ((c : Thread nD τ).loc main_arg0) :=
  Memref.read_access_unit_zero (Elt F) main_arg0 (funext fun a => by fin_cases a <;> decide) (fun a => by fin_cases a <;> decide) _
theorem rstg_eq (c : Dev nD) : rstg m ρ c = m ((c : Thread nD τ).loc main_arg2) :=
  Memref.read_access_unit_zero (Elt F) main_arg2 (funext fun a => by fin_cases a <;> decide) (fun a => by fin_cases a <;> decide) _
theorem wstg_eq (c : Dev nD) : wstg m ρ c = m ((c : Thread nD τ).loc main_arg3) :=
  Memref.read_access_unit_zero (Elt F) main_arg3 (funext fun a => by fin_cases a <;> decide) (fun a => by fin_cases a <;> decide) _

/-- Every device ends with its result, its arguments as they were, and no semaphore held. -/
theorem run_result : θ_run defs (onTc (τ := τ) (main (F := F))) ⟨m, fun _ => 0, ρ⟩ (fun r => (∀ c : Dev nD,
      (r.2.mem ((c.tc : Thread nD τ).loc main_v1) = accV m ρ c 31)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun _ h => ⟨fun c => ⟨((h.1 c).1 (3 : Fin 4)).trans (finalA_3 m ρ c), ((h.1 c).1 (0 : Fin 4)).trans (finalA_0 m ρ c), (h.1 c).2,
    ((h.1 c).1 (1 : Fin 4)).trans (finalA_1 m ρ c), ((h.1 c).1 (2 : Fin 4)).trans (finalA_2 m ρ c)⟩, h.2⟩) (run_main m ρ)

end Cert.KernelIdealProof

end
-- ==== Proof.IdealCount.lean ====
/-
One device's routing over the reals: its histogram, and the word that keeps or drops each of its tokens, as counts.
-/
module

public import proofs.«01_k».proof.Proof.IdealHop
public import Idealize.ShloMosaic.Lib.Pointwise
public import Idealize.ShloMosaic.Lib.WordSum

@[expose] public section

noncomputable section

namespace Cert.KernelIdealProof

open Cert.KernelIdeal Cert.KernelIdeal.Gen
open Idealize.ShloMosaic

/-- One where the routing word `r` names expert `e`, zero elsewhere. -/
def ind (r : BitVec 32) (e : ℕ) : ℕ := if r = BitVec.ofNat 32 e then 1 else 0

theorem ind_le (r : BitVec 32) (e : ℕ) : ind r e ≤ 1 := by unfold ind; split <;> decide

/-- The comparison of a routing word with an expert's number, widened, is the indicator's word. -/
theorem cmpi_eq_ind (r : BitVec 32) (e : ℕ) : BitVec.setWidth 32 (IntOp.cmpi .eq r (BitVec.ofNat 32 e)) = BitVec.ofNat 32 (ind r e) := by
  unfold ind
  show BitVec.setWidth 32 (BitVec.ofBool (r == BitVec.ofNat 32 e)) = _
  by_cases h : r = BitVec.ofNat 32 e
  · rw [if_pos h, beq_iff_eq.2 h]; rfl
  · rw [if_neg h, beq_eq_false_iff_ne.2 h]; rfl

/-- A small natural's word reads back, signed, as that natural. -/
theorem toInt_ofNat (n : ℕ) (h : n < 2 ^ 31) : (BitVec.ofNat 32 n).toInt = n := by
  rw [BitVec.toInt_eq_toNat_of_lt (by rw [BitVec.toNat_ofNat]; omega), BitVec.toNat_ofNat, Nat.mod_eq_of_lt (by omega)]

/-- The real of a small natural's word is the natural. -/
theorem sitofp_ofNat (n : ℕ) (h : n < 2 ^ 31) : FloatOps.sitofp (F := Ideal) .f32 (BitVec.ofNat 32 n) = ((n : ℕ) : EReal) := by
  show (((BitVec.ofNat 32 n).toInt : ℝ) : EReal) = _
  rw [toInt_ofNat n h, Int.cast_natCast]
  rfl

/-- The word of a real that is a small natural is the natural's. -/
theorem fptosi_natCast (n : ℕ) (h : n < 2 ^ 31) : FloatOps.fptosi (F := Ideal) (φ := .f32) 32 ((n : ℕ) : EReal) = BitVec.ofNat 32 n := by
  show BitVec.ofInt 32 (max (-(2 ^ 31 : ℕ) : ℤ) (min ((2 ^ 31 : ℕ) - 1) (if (0 : ℝ) ≤ (n : ℝ) then ⌊(n : ℝ)⌋ else ⌈(n : ℝ)⌉))) = _
  rw [if_pos (Nat.cast_nonneg n), Int.floor_natCast, min_eq_right (by omega), max_eq_right (by omega), BitVec.ofInt_natCast]

/-- Folding word addition from zero is the sum of the words. -/
theorem fold_addi {ι : Type} (s : Finset ι) (f : ι → BitVec 32) : s.fold IntOp.addi 0#32 f = ∑ i ∈ s, f i := by
  classical
  induction s using Finset.induction_on with
  | empty => rfl
  | insert a s h ih => rw [Finset.fold_insert h, Finset.sum_insert h, ih]; rfl

/-- A sum of the words of naturals is the word of the naturals' sum. -/
theorem sum_ofNat {ι : Type} (s : Finset ι) (f : ι → ℕ) : ∑ i ∈ s, BitVec.ofNat 32 (f i) = BitVec.ofNat 32 (∑ i ∈ s, f i) := by
  simp only [← BitVec.natCast_eq_ofNat, Nat.cast_sum]

/-- A sum of naturals, each read as a real, is their sum read as a real. -/
theorem sum_natCast {ι : Type} (s : Finset ι) (f : ι → ℕ) : ∑ i ∈ s, ((f i : ℕ) : EReal) = ((∑ i ∈ s, f i : ℕ) : EReal) :=
  (Nat.cast_sum s f).symm

/-- Entry `(t, e)` of the one-hot table: one where token `t` is routed to expert `e`. -/
theorem ind_apply (r : Vec Ideal S1024x1 .i32) (t : Fin 1024) (e : Fin 128) :
    k0_pay8 (F := Ideal) r (ix2 (n0 := 1024) (n1 := 128) t e) = ((ind (r (ix2 (n0 := 1024) (n1 := 1) t 0)) e.val : ℕ) : EReal) := by
  pointwise [k0_pay8, k0_pay7]
  rw [cmpi_eq_ind, sitofp_ofNat _ (lt_of_le_of_lt (ind_le _ _) (by decide))]

/-- Entry `e` of a device's histogram: how many of its tokens are routed to expert `e`. -/
theorem hist_apply (r : Vec Ideal S1024x1 .i32) (e : Fin 128) :
    k0_pay9 (F := Ideal) r (ix2 (n0 := 1) (n1 := 128) 0 e)
      = BitVec.ofNat 32 (∑ t : Fin 1024, ind (r (ix2 (n0 := 1024) (n1 := 1) t 0)) e.val) := by
  pointwise [k0_pay9]
  simp only [ind_apply]
  rw [sum_natCast, fptosi_natCast]
  refine lt_of_le_of_lt (Finset.sum_le_sum fun t _ => ind_le _ _) ?_
  rw [Finset.sum_const, Finset.card_univ, Fintype.card_fin]
  decide

/-- Comparing two small numbers' words, signed, compares the numbers. -/
theorem cmpi_slt_ofNat (a b : ℕ) (ha : a < 2 ^ 31) (hb : b < 2 ^ 31) :
    IntOp.cmpi .slt (BitVec.ofNat 32 a) (BitVec.ofNat 32 b) = BitVec.ofBool (decide (a < b)) := by
  show BitVec.ofBool (decide ((BitVec.ofNat 32 a).toInt < (BitVec.ofNat 32 b).toInt)) = _
  rw [toInt_ofNat a ha, toInt_ofNat b hb]
  simp only [Nat.cast_lt]

/-- The kernel's capacity is 204. -/
theorem capacity : Ideal.ofBits .f32 0x434C0000#32 = ((204 : ℕ) : EReal) := by
  rw [show ((204 : ℕ) : EReal) = ((204 : ℝ) : EReal) by norm_cast]
  simp [Ideal.ofBits, Ideal.ieee, -EReal.coe_mul]; norm_num

/-- Token `t` is kept when, over the experts, its indicator times the number of earlier tokens of the same expert (on this
    device, and on the devices before it) adds up to less than the capacity. -/
theorem keep_apply (c : ℕ) (hc : c ≤ 32) (x : FVec Ideal S1024x128 .f32) (h : Vec Ideal S32x128 .i32) (a : Fin 1024 → ℕ → ℕ) (b : Fin 32 → ℕ → ℕ)
    (hx : ∀ (t : Fin 1024) (e : Fin 128), x (ix2 (n0 := 1024) (n1 := 128) t e) = ((a t e.val : ℕ) : EReal))
    (hh : ∀ (p : Fin 32) (e : Fin 128), h (ix2 (n0 := 32) (n1 := 128) p e) = BitVec.ofNat 32 (b p e.val))
    (hb : ∀ p e, b p e ≤ 1024) (t : Fin 1024) :
    k0_pay10 (F := Ideal) (BitVec.ofNat 32 c) x h (ix2 (n0 := 1024) (n1 := 1) t 0)
      = BitVec.ofBool (decide ((∑ e : Fin 128, a t e.val * ((∑ s : Fin 1024, if s.val < t.val then a s e.val else 0)
          + ∑ p : Fin 32, if p.val < c then b p e.val else 0)) < 204)) := by
  have hsel : ∀ (p : Fin 32) (e : Fin 128), Scalar.select (IntOp.cmpi .slt (BitVec.ofNat 32 p.val) (BitVec.ofNat 32 c)) (h (ix2 (n0 := 32) (n1 := 128) p e)) 0#32
      = BitVec.ofNat 32 (if p.val < c then b p e.val else 0) := fun p e => by
    rw [cmpi_slt_ofNat _ _ (by omega) (by omega), hh]
    by_cases hp : p.val < c
    · rw [decide_eq_true hp, if_pos hp]; rfl
    · rw [decide_eq_false hp, if_neg hp]; rfl
  have htri : ∀ (s : Fin 1024) (e : Fin 128), FloatOps.sitofp (F := Ideal) .f32 (BitVec.setWidth 32 (IntOp.cmpi .slt (BitVec.ofNat 32 s.val) (BitVec.ofNat 32 t.val)))
      * ((a s e.val : ℕ) : EReal) = ((if s.val < t.val then a s e.val else 0 : ℕ) : EReal) := fun s e => by
    rw [cmpi_slt_ofNat _ _ (by omega) (by omega)]
    by_cases hp : s.val < t.val
    · rw [decide_eq_true hp, if_pos hp]
      exact (congrArg (· * ((a s e.val : ℕ) : EReal)) (sitofp_ofNat 1 (by decide))).trans (by rw [Nat.cast_one, one_mul])
    · rw [decide_eq_false hp, if_neg hp]
      exact (congrArg (· * ((a s e.val : ℕ) : EReal)) (sitofp_ofNat 0 (by decide))).trans (by rw [Nat.cast_zero, zero_mul])
  have hlt : ∀ e : Fin 128, (∑ p : Fin 32, if p.val < c then b p e.val else 0) < 2 ^ 31 := fun e => by
    refine lt_of_le_of_lt (Finset.sum_le_sum (g := fun _ => 1024) fun p _ => ?_) (by rw [Finset.sum_const, Finset.card_univ, Fintype.card_fin]; decide)
    split
    · exact hb _ _
    · exact Nat.zero_le _
  pointwise [k0_pay10]
  simp only [hsel, htri, fold_addi, sum_ofNat, sum_natCast, hx, capacity]
  simp only [fun e => sitofp_ofNat _ (hlt e), ← Nat.cast_add, ← EReal.natCast_mul, sum_natCast, Nat.cast_lt]

end Cert.KernelIdealProof

end
-- ==== Proof.RefValue.lean ====
/-
The reference's result, entry by entry: a token's row times its expert's matrix where the token is kept, zero elsewhere.
-/
module

public import proofs.«01_k».proof.Proof.IdealCount
public import proofs.«01_k».proof.Proof.Gen.ReferenceIdeal.Run

@[expose] public section

noncomputable section

namespace Cert.RefValue

open Cert.ReferenceIdeal Cert.ReferenceIdeal.Gen Cert.KernelIdealProof
open Idealize.ShloMosaic

/-- How many of the tokens before token `i` are routed to expert `e`. -/
def before (R : Fin 32768 → BitVec 32) (i : Fin 32768) (e : ℕ) : ℕ := ∑ s : Fin 32768, if s.val < i.val then ind (R s) e else 0

/-- Token `i`'s place in its expert's queue: over the experts, its indicator times the earlier tokens of that expert. -/
def place (R : Fin 32768 → BitVec 32) (i : Fin 32768) : ℕ := ∑ e : Fin 128, ind (R i) e.val * before R i e.val

theorem before_le (R : Fin 32768 → BitVec 32) (i : Fin 32768) (e : ℕ) : before R i e ≤ 32768 := by
  refine (Finset.sum_le_sum (g := fun _ => 1) fun s _ => ?_).trans (by rw [Finset.sum_const, Finset.card_univ, Fintype.card_fin]; decide)
  split
  · exact ind_le _ _
  · exact Nat.zero_le _

theorem place_le (R : Fin 32768 → BitVec 32) (i : Fin 32768) : place R i ≤ 128 * 32768 := by
  refine (Finset.sum_le_sum (g := fun _ => 32768) fun e _ => ?_).trans (by rw [Finset.sum_const, Finset.card_univ, Fintype.card_fin]; decide)
  exact (Nat.mul_le_mul (ind_le _ _) (before_le R i e.val)).trans (by rw [Nat.one_mul])

/-- A left fold of word addition along a range is the start plus the sum. -/
theorem foldl_addi {n : ℕ} (g : Fin n → BitVec 32) (v : BitVec 32) :
    (List.finRange n).foldl (fun r k => IntOp.addi r (g k)) v = v + ∑ k, g k := by
  rw [Fin.sum_univ_def]
  generalize List.finRange n = l
  induction l generalizing v with
  | nil => exact (add_zero v).symm
  | cons a l ih => rw [List.foldl_cons, ih, List.map_cons, List.sum_cons]; exact add_assoc v (g a) _

/-- A window that ends at row `i`, as long as the column, sees the rows up to `i`. -/
theorem window_sum (i : Fin 32768) (f : Fin 32768 → BitVec 32) (F : Fin 32768 → BitVec 32)
    (hF : ∀ w : Fin 32768, F w = if h : 32767 ≤ i.val + w.val then f ⟨i.val + w.val - 32767, by omega⟩ else 0#32) :
    ∑ w, F w = ∑ s : Fin 32768, if s ≤ i then f s else 0 := by
  rw [← Finset.sum_filter, ← Finset.sum_filter_add_sum_filter_not Finset.univ (fun w : Fin 32768 => 32767 ≤ i.val + w.val) F,
    Finset.sum_eq_zero (s := Finset.univ.filter fun w : Fin 32768 => ¬ 32767 ≤ i.val + w.val) fun w hw => by
      rw [hF, dif_neg (Finset.mem_filter.1 hw).2]; rfl, add_zero]
  refine Finset.sum_bij' (fun w hw => ⟨i.val + w.val - 32767, by omega⟩) (fun s hs => ⟨s.val + 32767 - i.val, ?_⟩) ?_ ?_ ?_ ?_ ?_
  · have := (Finset.mem_filter.1 hs).2
    have : s.val ≤ i.val := this
    omega
  · intro w hw
    refine Finset.mem_filter.2 ⟨Finset.mem_univ _, ?_⟩
    show i.val + w.val - 32767 ≤ i.val
    omega
  · intro s hs
    refine Finset.mem_filter.2 ⟨Finset.mem_univ _, ?_⟩
    show 32767 ≤ i.val + (s.val + 32767 - i.val)
    omega
  · intro w hw
    have := (Finset.mem_filter.1 hw).2
    apply Fin.ext
    show i.val + w.val - 32767 + 32767 - i.val = w.val
    omega
  · intro s hs
    have := (Finset.mem_filter.1 hs).2
    have : s.val ≤ i.val := this
    apply Fin.ext
    show i.val + (s.val + 32767 - i.val) - 32767 = s.val
    omega
  · intro w hw
    rw [hF, dif_pos (Finset.mem_filter.1 hw).2]

/-- The running sums of a table down its columns. -/
def running (x : IVec S32768x128 32) : IVec S32768x128 32 :=
  Host.reduceWindow IntOp.addi ![32768, 1] ![1, 1] ![32767, 0] ![0, 0] x (broadcastInDim S_ ![] bcast_S_S_ (constantI S_ 32 0#32))
    reduceWindows_S32768x128_S32768x128_w32768s1p32767_0_w1s1p0_0 h_S_

/-- The running count down a column, at row `i`: the sum of the rows up to `i`. -/
theorem running_apply (x : IVec S32768x128 32) (i : Fin 32768) (e : Fin 128) :
    running x (ix2 (n0 := 32768) (n1 := 128) i e) = ∑ s : Fin 32768, if s ≤ i then x (ix2 (n0 := 32768) (n1 := 128) s e) else 0 := by
  have h0 : broadcastInDim S_ ![] bcast_S_S_ (constantI S_ 32 0#32) (Shape.Idx.first h_S_) = 0#32 := rfl
  let G : (⟨2, ![32768, 1]⟩ : Shape).Idx → BitVec 32 := fun k =>
    if h : 32767 ≤ i.val + (k 0).val then x (ix2 (n0 := 32768) (n1 := 128) ⟨i.val + (k 0).val - 32767, by have : (k 0).val < 32768 := (k 0).isLt; omega⟩ e)
      else 0#32
  have hG : ∀ k, G k = if h : 32767 ≤ i.val + (k 0).val then x (ix2 (n0 := 32768) (n1 := 128) ⟨i.val + (k 0).val - 32767, by
    have : (k 0).val < 32768 := (k 0).isLt; omega⟩ e) else 0#32 := fun k => rfl
  unfold running Host.reduceWindow
  dsimp only
  rw [h0]
  refine (foldl_addi _ _).trans ((zero_add _).trans ?_)
  refine (Finset.sum_congr rfl fun n _ => (?_ : _ = G ((⟨2, ![32768, 1]⟩ : Shape).rowMajor.symm n))).trans ?_
  · have h1 : ((⟨2, ![32768, 1]⟩ : Shape).rowMajor.symm n 1).val = 0 := by have : ((⟨2, ![32768, 1]⟩ : Shape).rowMajor.symm n 1).val < 1 := ((⟨2, ![32768, 1]⟩ : Shape).rowMajor.symm n 1).isLt; omega
    have hk : ((⟨2, ![32768, 1]⟩ : Shape).rowMajor.symm n 0).val < 32768 := ((⟨2, ![32768, 1]⟩ : Shape).rowMajor.symm n 0).isLt
    by_cases h : 32767 ≤ i.val + ((⟨2, ![32768, 1]⟩ : Shape).rowMajor.symm n 0).val
    · rw [dif_pos (Fin.forall_fin_two.2 ⟨⟨(by show 32767 ≤ i.val * 1 + ((⟨2, ![32768, 1]⟩ : Shape).rowMajor.symm n 0).val; omega), (by show i.val * 1 + ((⟨2, ![32768, 1]⟩ : Shape).rowMajor.symm n 0).val - 32767 < 32768; omega)⟩,
        (by show 0 ≤ e.val * 1 + ((⟨2, ![32768, 1]⟩ : Shape).rowMajor.symm n 1).val; omega), (by show e.val * 1 + ((⟨2, ![32768, 1]⟩ : Shape).rowMajor.symm n 1).val - 0 < 128; omega)⟩)]
      refine Eq.trans (congrArg x (funext fun a => Fin.ext ?_)) ((hG _).trans (dif_pos h)).symm
      match a with
      | ⟨0, _⟩ => show i.val * 1 + ((⟨2, ![32768, 1]⟩ : Shape).rowMajor.symm n 0).val - 32767 = i.val + ((⟨2, ![32768, 1]⟩ : Shape).rowMajor.symm n 0).val - 32767; omega
      | ⟨1, _⟩ => show e.val * 1 + ((⟨2, ![32768, 1]⟩ : Shape).rowMajor.symm n 1).val - 0 = e.val; omega
    · rw [dif_neg fun hin => h (by have : 32767 ≤ i.val * 1 + ((⟨2, ![32768, 1]⟩ : Shape).rowMajor.symm n 0).val := (hin 0).1; omega)]
      exact ((hG _).trans (dif_neg h)).symm
  · rw [Equiv.sum_comp (⟨2, ![32768, 1]⟩ : Shape).rowMajor.symm G, sum_idx2]
    refine window_sum i (fun s => x (ix2 s e)) _ fun w => ?_
    rw [Fintype.sum_unique]
    rfl

/-- The gather picks the named expert's matrix. -/
theorem gather_apply (w : Vec Ideal S128x512x1024 .bf16) (r : IVec S32768x1 32) (i : Fin 32768) (d : Fin 512) (f : Fin 1024) (q : Fin 128)
    (hq : r (ix2 (n0 := 32768) (n1 := 1) i 0) = BitVec.ofNat 32 q.val) :
    Host.gather gather_S128x512x1024_S32768x1_S32768x512x1024_12_0_n_n_0_1_15121024 w r (ix3 (n0 := 32768) (n1 := 512) (n2 := 1024) i d f)
      = w (ix3 (n0 := 128) (n1 := 512) (n2 := 1024) q d f) := by
  unfold Host.gather
  refine congrArg w (funext fun a => Fin.ext ?_)
  have hi : gather_S128x512x1024_S32768x1_S32768x512x1024_12_0_n_n_0_1_15121024.siIdx (ix3 (n0 := 32768) (n1 := 512) (n2 := 1024) i d f) ⟨0, by decide⟩
      = ix2 (n0 := 32768) (n1 := 1) i 0 := by
    funext b
    match b with
    | ⟨0, _⟩ => rfl
    | ⟨1, _⟩ => rfl
  match a with
  | ⟨0, _⟩ =>
    show min (r (gather_S128x512x1024_S32768x1_S32768x512x1024_12_0_n_n_0_1_15121024.siIdx (ix3 (n0 := 32768) (n1 := 512) (n2 := 1024) i d f) ⟨0, by decide⟩)).toInt.toNat 127 + 0 + 0 = q.val
    rw [hi, hq, toInt_ofNat _ (by omega)]
    omega
  | ⟨1, _⟩ =>
    show 0 + 0 + d.val = d.val
    omega
  | ⟨2, _⟩ =>
    show 0 + 0 + f.val = f.val
    omega

/-- The one-hot table of the routing words. -/
def oneHot (r : Vec Ideal S32768x1 .i32) : IVec S32768x128 32 :=
  extui 32 (cmpi .eq
    (broadcastInDim S32768x128 ![0, 1] bcast_S32768x1_S32768x128_0_1 (broadcastInDim S32768x1 ![0] bcast_S32768_S32768x1_0 (shapeCast _ r shapeCasts_S32768x1_S32768)))
    (broadcastInDim S32768x128 ![0, 1] bcast_S1x128_S32768x128_0_1 (broadcastInDim S1x128 ![1] bcast_S128_S1x128_1 (iotaInDim S128 32 0)))) natLt_1_32

/-- The reference's result, as its run leaves it, of the tokens `x`, the routing `r` and the experts `w`. -/
def out (x : Vec Ideal S32768x512 .bf16) (r : Vec Ideal S32768x1 .i32) (w : Vec Ideal S128x512x1024 .bf16) : Vec Ideal S32768x1024 .f32 :=
  select (broadcastInDim S32768x1024 ![0, 1] bcast_S32768x1_S32768x1024_0_1 (broadcastInDim S32768x1 ![0] bcast_S32768_S32768x1_0
      (andi (andi (cmpi .sge (shapeCast _ r shapeCasts_S32768x1_S32768) (broadcastInDim S32768 ![] bcast_S_S32768 (constantI S_ 32 0#32)))
          (cmpi .slt (shapeCast _ r shapeCasts_S32768x1_S32768) (broadcastInDim S32768 ![] bcast_S_S32768 (constantI S_ 32 128#32))))
        (cmpi .slt (Host.reduce IntOp.addi (muli (oneHot r) (subi (running (oneHot r)) (oneHot r)))
          (constantI S_ 32 0#32) reducesTo_S32768x128_S32768_d1 h_S_) (broadcastInDim S32768 ![] bcast_S_S32768 (constantI S_ 32 204#32))))))
    (Host.dotGeneral (F := Ideal) (φ₁ := .bf16) (φ₂ := .bf16) dot_S32768x512_S32768x512x1024_S32768x1024_1_1_n_2_0_0 none x
      (Host.gather gather_S128x512x1024_S32768x1_S32768x512x1024_12_0_n_n_0_1_15121024 w
        (broadcastInDim S32768x1 ![0] bcast_S32768_S32768x1_0 (shapeCast _ r shapeCasts_S32768x1_S32768))))
    (broadcastInDim S32768x1024 ![] bcast_S_S32768x1024 (id (constant (F := Ideal) S_ .f32 0x00000000#32)))

/-- Each token's routing word. -/
def words (r : Vec Ideal S32768x1 .i32) (i : Fin 32768) : BitVec 32 := r (ix2 (n0 := 32768) (n1 := 1) i 0)

theorem oneHot_apply (r : Vec Ideal S32768x1 .i32) (i : Fin 32768) (e : Fin 128) :
    oneHot r (ix2 (n0 := 32768) (n1 := 128) i e) = BitVec.ofNat 32 (ind (words r i) e.val) := by
  pointwise [oneHot]
  exact cmpi_eq_ind _ _

/-- The word that a token's one-hot row and its running counts add up to is its place. -/
theorem place_apply (r : Vec Ideal S32768x1 .i32) (i : Fin 32768) :
    (∑ e : Fin 128, IntOp.muli (BitVec.ofNat 32 (ind (words r i) e.val))
        (IntOp.subi (∑ s : Fin 32768, if s ≤ i then BitVec.ofNat 32 (ind (words r s) e.val) else 0) (BitVec.ofNat 32 (ind (words r i) e.val))))
      = BitVec.ofNat 32 (place (words r) i) := by
  unfold place before
  rw [← sum_ofNat]
  refine Finset.sum_congr rfl fun e _ => ?_
  rw [BitVec.ofNat_mul, ← sum_ofNat]
  refine congrArg (BitVec.ofNat 32 (ind (words r i) e.val) * ·) ?_
  refine (Routing.prefix_sub_last (fun s => BitVec.ofNat 32 (ind (words r s) e.val)) i).trans (Finset.sum_congr rfl fun s _ => ?_)
  by_cases h : s < i
  · rw [if_pos h, if_pos (show s.val < i.val from h)]
  · rw [if_neg h, if_neg (show ¬ s.val < i.val from h)]; rfl

/-- The two signed comparisons say that a routing word names one of the 128 experts. -/
theorem in_range (v : BitVec 32) (b : Bool) :
    IntOp.andi (IntOp.andi (IntOp.cmpi .sge v 0#32) (IntOp.cmpi .slt v 128#32)) (BitVec.ofBool b) = BitVec.ofBool (decide (v.toNat < 128) && b) := by
  have h : (decide ((0#32 : BitVec 32).toInt ≤ v.toInt) && decide (v.toInt < (128#32 : BitVec 32).toInt)) = decide (v.toNat < 128) := by
    rw [← Bool.decide_and, decide_eq_decide, show (0#32 : BitVec 32).toInt = 0 from rfl, show (128#32 : BitVec 32).toInt = 128 from rfl, BitVec.toInt_eq_toNat_cond]
    have := v.isLt
    split <;> omega
  rw [← h]
  show BitVec.ofBool (decide ((0#32 : BitVec 32).toInt ≤ v.toInt)) &&& BitVec.ofBool (decide (v.toInt < (128#32 : BitVec 32).toInt)) &&& BitVec.ofBool b = _
  generalize decide ((0#32 : BitVec 32).toInt ≤ v.toInt) = p
  generalize decide (v.toInt < (128#32 : BitVec 32).toInt) = q
  revert p q b
  decide

/-- What expert `q` gives entry `f` of token `i`. -/
def share (x : Vec Ideal S32768x512 .bf16) (w : Vec Ideal S128x512x1024 .bf16) (i : Fin 32768) (f : Fin 1024) (q : Fin 128) : EReal :=
  ∑ d : Fin 512, x (ix2 (n0 := 32768) (n1 := 512) i d) * w (ix3 (n0 := 128) (n1 := 512) (n2 := 1024) q d f)

/-- A choice by a truth value's word is the choice by the truth value. -/
theorem select_ofBool (b : Bool) (u v : EReal) : Scalar.select (BitVec.ofBool b) u v = if b then u else v := by cases b <;> rfl

/-- A token's row times the matrix gathered for it is what its expert gives. -/
theorem dot_share (x : Vec Ideal S32768x512 .bf16) (r : Vec Ideal S32768x1 .i32) (w : Vec Ideal S128x512x1024 .bf16) (i : Fin 32768) (f : Fin 1024) (q : Fin 128)
    (hq : words r i = BitVec.ofNat 32 q.val) :
    (∑ d : Fin 512, x (ix2 (n0 := 32768) (n1 := 512) i d)
        * Host.gather gather_S128x512x1024_S32768x1_S32768x512x1024_12_0_n_n_0_1_15121024 w
            (broadcastInDim S32768x1 ![0] bcast_S32768_S32768x1_0 (shapeCast S32768 r shapeCasts_S32768x1_S32768))
            (ix3 (n0 := 32768) (n1 := 512) (n2 := 1024) i d f)) = share x w i f q := by
  have hr : (broadcastInDim S32768x1 ![0] bcast_S32768_S32768x1_0 (shapeCast S32768 r shapeCasts_S32768x1_S32768)) (ix2 (n0 := 32768) (n1 := 1) i 0)
      = BitVec.ofNat 32 q.val := by
    rw [← hq]
    pointwise
    rfl
  exact Finset.sum_congr rfl fun d _ => by rw [gather_apply w _ i d f q hr]

/-- A choice of `u` where the routing word is in range and the place `n` is below the capacity, as a sum over the experts. -/
theorem pick_sum (v : BitVec 32) (n : ℕ) (u : EReal) (s : Fin 128 → EReal) (hu : ∀ q : Fin 128, v = BitVec.ofNat 32 q.val → u = s q) :
    (if (decide (v.toNat < 128) && decide (n < 204)) = true then u else 0) = ∑ q : Fin 128, if n < 204 ∧ v = BitVec.ofNat 32 q.val then s q else 0 := by
  have hz : (∀ q : Fin 128, ¬ (n < 204 ∧ v = BitVec.ofNat 32 q.val)) →
      (0 : EReal) = ∑ q : Fin 128, if n < 204 ∧ v = BitVec.ofNat 32 q.val then s q else 0 := fun h =>
    (Finset.sum_eq_zero fun q _ => if_neg (h q)).symm
  by_cases hr : v.toNat < 128
  · by_cases hn : n < 204
    · have hw : v = BitVec.ofNat 32 (⟨v.toNat, hr⟩ : Fin 128).val := by
        apply BitVec.eq_of_toNat_eq
        rw [BitVec.toNat_ofNat, Nat.mod_eq_of_lt v.isLt]
      rw [decide_eq_true hr, decide_eq_true hn, if_pos (by decide)]
      refine Eq.trans ?_ (Finset.sum_eq_single (⟨v.toNat, hr⟩ : Fin 128) ?_ ?_).symm
      · rw [if_pos ⟨hn, hw⟩, ← hu _ hw]
      · intro q _ hq
        refine if_neg fun hh => hq (Fin.ext ?_)
        show q.val = v.toNat
        rw [hh.2, BitVec.toNat_ofNat]
        omega
      · exact fun h => absurd (Finset.mem_univ _) h
    · rw [decide_eq_false hn, Bool.and_false, if_neg (by decide)]
      exact hz fun q hq => hn hq.1
  · rw [decide_eq_false hr, Bool.false_and, if_neg (by decide)]
    refine hz fun q hq => hr ?_
    rw [hq.2, BitVec.toNat_ofNat]
    omega

/-- The reference at token `i`, entry `f`: the sum over the experts of what the token's own expert gives, if the token is kept. -/
theorem out_apply (x : Vec Ideal S32768x512 .bf16) (r : Vec Ideal S32768x1 .i32) (w : Vec Ideal S128x512x1024 .bf16) (i : Fin 32768) (f : Fin 1024) :
    out x r w (ix2 (n0 := 32768) (n1 := 1024) i f)
      = ∑ q : Fin 128, if place (words r) i < 204 ∧ words r i = BitVec.ofNat 32 q.val then share x w i f q else 0 := by
  pointwise [out]
  simp only [running_apply, oneHot_apply, fold_addi]
  rw [place_apply]
  have hl := place_le (words r) i
  rw [cmpi_slt_ofNat _ 204 (by omega) (by decide)]
  have h0 : ∀ j, (id (constant (F := Ideal) S_ .f32 0x00000000#32) j : EReal) = 0 := fun j => Ideal.ofBits_zero .f32
  rw [h0, in_range, select_ofBool]
  exact pick_sum _ _ _ _ fun q hq => dot_share x r w i f q hq

end Cert.RefValue

end
-- ==== Proof.IdealValue.lean ====
/-
The device's sum over the reals: at each of its tokens, what the token's own expert gives if the token is kept, which is
the reference's row.
-/
module

public import proofs.«01_k».proof.Proof.RefValue
public import proofs.«01_k».proof.Proof.IdealRun
public import Idealize.ShloMosaic.Lib.LayoutAt

@[expose] public section

noncomputable section

namespace Cert.KernelIdealProof

open Cert.KernelIdeal Cert.KernelIdeal.Gen Cert.RefValue
open Idealize.ShloMosaic

/-- The rows of the kept tokens that are routed to expert `q`, zero in the others' place. -/
def take (q : BitVec 32) (rt : IVec S1024x1 32) (kp : IVec S1024x1 1) (x : Vec Ideal S1024x512 .bf16) : Vec Ideal S1024x512 .bf16 :=
  select (broadcastTo S1024x512 (shapeCast S1024x1 (andi kp (cmpi .eq rt (broadcast S1024x1 q))) shapeCasts_S1024x1_S1024x1) broadcasts_S1024x1_S1024x512)
    x (broadcast S1024x512 (Scalar.ofBits (F := Ideal) .bf16 0x0000#16))

/-- One expert's step: the sum so far and the taken rows times the expert's matrix. -/
def step (q : BitVec 32) (rt : IVec S1024x1 32) (kp : IVec S1024x1 1) (x : Vec Ideal S1024x512 .bf16) (w : Vec Ideal S1x1x512x1024 .bf16)
    (a : Vec Ideal S1024x1024 .f32) : Vec Ideal S1024x1024 .f32 :=
  k0_pay4 (F := Ideal) (take q rt kp x) w a

/-- A step at a token: it adds the token's row times the matrix where the token is kept and routed to this expert. -/
theorem step_apply (q : BitVec 32) (rt : IVec S1024x1 32) (kp : IVec S1024x1 1) (x : Vec Ideal S1024x512 .bf16) (w : Vec Ideal S1x1x512x1024 .bf16)
    (a : Vec Ideal S1024x1024 .f32) (t : Fin 1024) (f : Fin 1024) (k : Bool) (hk : kp (ix2 (n0 := 1024) (n1 := 1) t 0) = BitVec.ofBool k) :
    step q rt kp x w a (ix2 (n0 := 1024) (n1 := 1024) t f)
      = a (ix2 (n0 := 1024) (n1 := 1024) t f) + if k = true ∧ rt (ix2 (n0 := 1024) (n1 := 1) t 0) = q then
          ∑ d : Fin 512, x (ix2 (n0 := 1024) (n1 := 512) t d) * w (ix4 (n0 := 1) (n1 := 1) (n2 := 512) (n3 := 1024) 0 0 d f) else 0 := by
  pointwise [step, take, k0_pay4]
  rw [hk]
  generalize rt (ix2 (n0 := 1024) (n1 := 1) t 0) = v
  have hv : IntOp.andi (BitVec.ofBool k) (IntOp.cmpi .eq v q) = BitVec.ofBool (k && (v == q)) := by
    show BitVec.ofBool k &&& BitVec.ofBool (v == q) = _
    cases k <;> cases v == q <;> rfl
  refine congrArg (a (ix2 (n0 := 1024) (n1 := 1024) t f) + ·) ?_
  rw [hv]
  by_cases h : k = true ∧ v = q
  · rw [if_pos h, h.1, beq_iff_eq.2 h.2]
    rfl
  · rw [if_neg h]
    have hf : (k && (v == q)) = false := by
      rw [Bool.eq_false_iff]
      exact fun hh => h (by rwa [Bool.and_eq_true, beq_iff_eq] at hh)
    rw [hf]
    exact Finset.sum_eq_zero fun d _ => select_ofBool false _ _

/-- The device's word is its number, -/
theorem meW_eq (c : Dev nD) : meW c = BitVec.ofNat 32 c.val := by revert c; decide +kernel

/-- the origin's word the origin's number, -/
theorem orgW_eq (c : Dev nD) (n : ℕ) (h : n < 31) : orgW c n = BitVec.ofNat 32 (org c (n + 1)).val := by
  have : ∀ (c : Dev nD) (n : Fin 31), orgW c n.val = BitVec.ofNat 32 (org c (n.val + 1)).val := by decide +kernel
  exact this c ⟨n, h⟩

/-- and an expert's word is the expert's number. -/
theorem expert_word (p : ℕ) (k : BitVec 32) : Scalar.addi (Scalar.muli (BitVec.ofNat 32 p) 4#32) k = BitVec.ofNat 32 (p * 4 + k.toNat) := by
  show BitVec.ofNat 32 p * 4#32 + k = _
  rw [BitVec.ofNat_add, BitVec.ofNat_mul, BitVec.ofNat_toNat, BitVec.setWidth_eq]

variable (m : (ℓ : Loc nD τ sig) → Buf (Elt Ideal) ℓ) (ρ : Dev nD → PrngReg)

/-- The four steps that a device takes with the four experts of device `p`. -/
def four (c p : Dev nD) (a : Vec Ideal S1024x1024 .f32) : Vec Ideal S1024x1024 .f32 :=
  step (BitVec.ofNat 32 (p.val * 4 + (3 : Fin 4).val)) (rtV m ρ c) (kpV m ρ c) (bxV m ρ c) (wsl (wstg m ρ p) 3)
    (step (BitVec.ofNat 32 (p.val * 4 + (2 : Fin 4).val)) (rtV m ρ c) (kpV m ρ c) (bxV m ρ c) (wsl (wstg m ρ p) 2)
      (step (BitVec.ofNat 32 (p.val * 4 + (1 : Fin 4).val)) (rtV m ρ c) (kpV m ρ c) (bxV m ρ c) (wsl (wstg m ρ p) 1)
        (step (BitVec.ofNat 32 (p.val * 4 + (0 : Fin 4).val)) (rtV m ρ c) (kpV m ρ c) (bxV m ρ c) (wsl (wstg m ρ p) 0) a)))

/-- Its own experts' steps are such, -/
theorem own_four (c : Dev nD) : own4 m ρ c = four m ρ c c (k0_pay13 (F := Ideal)) := by
  unfold own4 own3 own2 own1
  rw [meW_eq]
  show step (Scalar.addi (Scalar.muli (BitVec.ofNat 32 c.val) 4#32) 3#32) _ _ _ _ (step (Scalar.addi (Scalar.muli (BitVec.ofNat 32 c.val) 4#32) 2#32) _ _ _ _
    (step (Scalar.addi (Scalar.muli (BitVec.ofNat 32 c.val) 4#32) 1#32) _ _ _ _ (step (Scalar.addi (Scalar.muli (BitVec.ofNat 32 c.val) 4#32) 0#32) _ _ _ _ _))) = _
  simp only [expert_word]
  rfl

/-- and so are a hop's. -/
theorem hop_four (c : Dev nD) (n : ℕ) (h : n < 31) (a : Vec Ideal S1024x1024 .f32) :
    hop4 m ρ c n (wstg m ρ (org c (n + 1))) a = four m ρ c (org c (n + 1)) a := by
  unfold hop4 hop3 hop2 hop1
  show step (Scalar.addi (Scalar.muli (orgW c n) 4#32) 3#32) _ _ _ _ (step (Scalar.addi (Scalar.muli (orgW c n) 4#32) 2#32) _ _ _ _
    (step (Scalar.addi (Scalar.muli (orgW c n) 4#32) 1#32) _ _ _ _ (step (Scalar.addi (Scalar.muli (orgW c n) 4#32) 0#32) _ _ _ _ _))) = _
  rw [orgW_eq c n h]
  simp only [expert_word]
  rfl

/-- Token `t` of device `c` among all the tokens, and expert `k` of device `p` among all the experts. -/
def tok (c : Dev nD) (t : Fin 1024) : Fin 32768 := ⟨c.val * 1024 + t.val, by have : c.val < 32 := c.isLt; omega⟩
def expert (p : Dev nD) (k : Fin 4) : Fin 128 := ⟨p.val * 4 + k.val, by have : p.val < 32 := p.isLt; omega⟩

/-- The tokens before token `t` of device `c` are those before it on the device, and all those of the devices before. -/
theorem before_tok (R : Fin 32768 → BitVec 32) (c : Dev nD) (t : Fin 1024) (e : ℕ) :
    before R (tok c t) e = (∑ s : Fin 1024, if s.val < t.val then ind (R (tok c s)) e else 0)
      + ∑ p : Fin 32, if p.val < c.val then ∑ u : Fin 1024, ind (R (tok p u)) e else 0 := by
  have hp : ∀ p : Fin 32, (∑ u : Fin 1024, if (tok p u).val < (tok c t).val then ind (R (tok p u)) e else 0)
      = (if p = c then ∑ s : Fin 1024, if s.val < t.val then ind (R (tok c s)) e else 0 else 0)
        + if p.val < c.val then ∑ u : Fin 1024, ind (R (tok p u)) e else 0 := fun p => by
    by_cases hc : p = c
    · subst hc
      rw [if_pos rfl, if_neg (lt_irrefl _), add_zero]
      refine Finset.sum_congr rfl fun u _ => if_congr ?_ rfl rfl
      show p.val * 1024 + u.val < p.val * 1024 + t.val ↔ _
      omega
    · have hv : p.val ≠ c.val := fun h => hc (Fin.ext h)
      rw [if_neg hc, zero_add]
      by_cases hl : p.val < c.val
      · rw [if_pos hl]
        refine Finset.sum_congr rfl fun u _ => if_pos ?_
        show p.val * 1024 + u.val < c.val * 1024 + t.val
        omega
      · rw [if_neg hl]
        refine Finset.sum_eq_zero fun u _ => if_neg ?_
        show ¬ p.val * 1024 + u.val < c.val * 1024 + t.val
        omega
  unfold before
  rw [Fin.sum_univ_tiles 32 1024 rfl]
  refine (Finset.sum_congr rfl fun p _ => hp p).trans ?_
  rw [Finset.sum_add_distrib, Finset.sum_ite_eq' Finset.univ c, if_pos (Finset.mem_univ _)]

/-- The rows, the routing and the experts that the devices hold are blocks of `x`, `r` and `w`. -/
structure Holds (x : Vec Ideal Cert.ReferenceIdeal.S32768x512 .bf16) (r : Vec Ideal Cert.ReferenceIdeal.S32768x1 .i32)
    (w : Vec Ideal Cert.ReferenceIdeal.S128x512x1024 .bf16) : Prop where
  rows : ∀ (c : Dev nD) (t : Fin 1024) (d : Fin 512), xstg m ρ c (ix2 (n0 := 1024) (n1 := 512) t d) = x (ix2 (n0 := 32768) (n1 := 512) (tok c t) d)
  route : ∀ (c : Dev nD) (t : Fin 1024), rstg m ρ c (ix2 (n0 := 1024) (n1 := 1) t 0) = words r (tok c t)
  experts : ∀ (p : Dev nD) (k : Fin 4) (d : Fin 512) (f : Fin 1024), wstg m ρ p (ix3 (n0 := 4) (n1 := 512) (n2 := 1024) k d f)
    = w (ix3 (n0 := 128) (n1 := 512) (n2 := 1024) (expert p k) d f)

variable {x : Vec Ideal Cert.ReferenceIdeal.S32768x512 .bf16} {r : Vec Ideal Cert.ReferenceIdeal.S32768x1 .i32}
  {w : Vec Ideal Cert.ReferenceIdeal.S128x512x1024 .bf16}

/-- A device keeps its token `t` where the token's place among all the tokens is below the capacity. -/
theorem kept (H : Holds m ρ x r w) (c : Dev nD) (t : Fin 1024) :
    kpV m ρ c (ix2 (n0 := 1024) (n1 := 1) t 0) = BitVec.ofBool (decide (place (words r) (tok c t) < 204)) := by
  have hc : c.val < 32 := c.isLt
  unfold kpV
  rw [meW_eq, keep_apply c.val (by omega) _ _ (fun t e => ind (words r (tok c t)) e) (fun p e => ∑ u : Fin 1024, ind (words r (tok p u)) e)]
  · unfold place
    simp only [before_tok]
  · intro t e
    rw [ind_apply, H.route]
  · intro p e
    refine Eq.trans ?_ (hist_apply (rstg m ρ p) e) |>.trans ?_
    · show hist m ρ p (ValueIdx.ix2 (n0 := 1) (n1 := 128) 0 e) = _
      rw [← ix2_eq_valueIdx]
      rfl
    · simp only [H.route]
  · intro p e
    refine (Finset.sum_le_sum (g := fun _ => 1) fun _ _ => ind_le _ _).trans (by rw [Finset.sum_const, Finset.card_univ, Fintype.card_fin]; decide)

/-- What expert `q` adds to entry `f` of token `i`: its share where the token is kept and its own. -/
def part (x : Vec Ideal Cert.ReferenceIdeal.S32768x512 .bf16) (r : Vec Ideal Cert.ReferenceIdeal.S32768x1 .i32)
    (w : Vec Ideal Cert.ReferenceIdeal.S128x512x1024 .bf16) (i : Fin 32768) (f : Fin 1024) (q : Fin 128) : EReal :=
  if place (words r) i < 204 ∧ words r i = BitVec.ofNat 32 q.val then share x w i f q else 0

/-- A step with expert `k` of device `p` adds that expert's part. -/
theorem step_part (H : Holds m ρ x r w) (c p : Dev nD) (k : Fin 4) (a : Vec Ideal S1024x1024 .f32) (t : Fin 1024) (f : Fin 1024) :
    step (BitVec.ofNat 32 (p.val * 4 + k.val)) (rtV m ρ c) (kpV m ρ c) (bxV m ρ c) (wsl (wstg m ρ p) k) a (ix2 (n0 := 1024) (n1 := 1024) t f)
      = a (ix2 (n0 := 1024) (n1 := 1024) t f) + part x r w (tok c t) f (expert p k) := by
  rw [step_apply _ _ _ _ _ _ t f _ (kept m ρ H c t)]
  have hr : rtV m ρ c (ix2 (n0 := 1024) (n1 := 1) t 0) = words r (tok c t) := by
    rw [← H.route]
    pointwise [rtV, k0_pay7]
  have hx : ∀ d : Fin 512, bxV m ρ c (ix2 (n0 := 1024) (n1 := 512) t d) = x (ix2 (n0 := 32768) (n1 := 512) (tok c t) d) := fun d => by
    rw [← H.rows]
    pointwise [bxV, k0_pay11]
  have hw : ∀ d : Fin 512, wsl (wstg m ρ p) k (ix4 (n0 := 1) (n1 := 1) (n2 := 512) (n3 := 1024) 0 0 d f)
      = w (ix3 (n0 := 128) (n1 := 512) (n2 := 1024) (expert p k) d f) := fun d => by
    rw [← H.experts, ix3_eq_valueIdx]
    rfl
  rw [hr]
  simp only [hx, hw, decide_eq_true_eq]
  rfl

/-- The four steps add the four parts. -/
theorem four_part (H : Holds m ρ x r w) (c p : Dev nD) (a : Vec Ideal S1024x1024 .f32) (t : Fin 1024) (f : Fin 1024) :
    four m ρ c p a (ix2 (n0 := 1024) (n1 := 1024) t f)
      = a (ix2 (n0 := 1024) (n1 := 1024) t f) + ∑ k : Fin 4, part x r w (tok c t) f (expert p k) := by
  rw [Fin.sum_univ_four, ← add_assoc, ← add_assoc, ← add_assoc]
  unfold four
  rw [step_part m ρ H c p 3, step_part m ρ H c p 2, step_part m ρ H c p 1, step_part m ρ H c p 0]

/-- After `n` hops the sum has the parts of the experts of the first `n + 1` origins. -/
theorem acc_part (H : Holds m ρ x r w) (c : Dev nD) (t : Fin 1024) (f : Fin 1024) (n : ℕ) (hn : n ≤ 31) :
    accV m ρ c n (ix2 (n0 := 1024) (n1 := 1024) t f)
      = ∑ h ∈ Finset.range (n + 1), ∑ k : Fin 4, part x r w (tok c t) f (expert (org c h) k) := by
  induction n with
  | zero =>
    have hz : k0_pay13 (F := Ideal) (ix2 (n0 := 1024) (n1 := 1024) t f) = 0 := by pointwise [k0_pay13]
    rw [Finset.sum_range_one, org_zero]
    refine (congrFun (own_four m ρ c) _).trans ((four_part m ρ H c c _ t f).trans ?_)
    rw [hz, zero_add]
  | succ n ih =>
    rw [Finset.sum_range_succ, ← ih (by omega)]
    exact (congrFun (hop_four m ρ c n (by omega) _) _).trans (four_part m ρ H c _ _ t f)

/-- The origins of the 32 rounds are the 32 devices. -/
theorem org_bijective (c : Dev nD) : Function.Bijective fun h : Fin 32 => org c h.val := by
  refine Finite.injective_iff_bijective.1 fun a b hab => Fin.ext ?_
  have : (c.val + 31 * a.val) % 32 = (c.val + 31 * b.val) % 32 := congrArg Fin.val hab
  omega

/-- The device's result at a token is the reference's. -/
theorem acc_out (H : Holds m ρ x r w) (c : Dev nD) (t : Fin 1024) (f : Fin 1024) :
    accV m ρ c 31 (ix2 (n0 := 1024) (n1 := 1024) t f) = out x r w (ix2 (n0 := 32768) (n1 := 1024) (tok c t) f) := by
  rw [acc_part m ρ H c t f 31 le_rfl, Finset.sum_range,
    (org_bijective c).sum_comp (fun p : Dev nD => ∑ k : Fin 4, part x r w (tok c t) f (expert p k)), out_apply]
  exact (Fin.sum_univ_tiles 32 4 rfl (part x r w (tok c t) f)).symm

/-- Devices that hold blocks end with blocks of the reference's result. -/
theorem acc_block (H : Holds m ρ x r w) (c : Dev nD) (h : Layout.Tiles ⟨2, ![1024, 1024]⟩ ⟨2, ![32768, 1024]⟩ 0 32) :
    accV m ρ c 31 = Layout.block ⟨2, ![1024, 1024]⟩ ⟨2, ![32768, 1024]⟩ 0 32 c (out x r w) h := by
  funext i
  obtain ⟨t, f, rfl⟩ : ∃ (t : Fin 1024) (f : Fin 1024), i = ix2 (n0 := 1024) (n1 := 1024) t f := ⟨i 0, i 1, eq_ix2 i⟩
  refine (acc_out m ρ H c t f).trans (congrArg (out x r w) (funext fun a => Fin.ext ?_))
  match a with
  | ⟨0, _⟩ => rfl
  | ⟨1, _⟩ => rfl

/-- Devices whose arguments are blocks of whole arrays hold their blocks. -/
theorem holds_of_blocks (hx : Layout.Tiles ⟨2, ![1024, 512]⟩ ⟨2, ![32768, 512]⟩ 0 32) (hr : Layout.Tiles ⟨2, ![1024, 1]⟩ ⟨2, ![32768, 1]⟩ 0 32)
    (hw : Layout.Tiles ⟨3, ![4, 512, 1024]⟩ ⟨3, ![128, 512, 1024]⟩ 0 32)
    (h : ∀ c : Dev nD, m ((c.tc : Thread nD τ).loc main_arg0) = Layout.block ⟨2, ![1024, 512]⟩ ⟨2, ![32768, 512]⟩ 0 32 c x hx
      ∧ m ((c.tc : Thread nD τ).loc main_arg2) = Layout.block ⟨2, ![1024, 1]⟩ ⟨2, ![32768, 1]⟩ 0 32 c r hr
      ∧ m ((c.tc : Thread nD τ).loc main_arg3) = Layout.block ⟨3, ![4, 512, 1024]⟩ ⟨3, ![128, 512, 1024]⟩ 0 32 c w hw) : Holds m ρ x r w where
  rows c t d := by
    rw [xstg_eq]
    refine (congrFun (h c).1 _).trans (congrArg x (funext fun a => Fin.ext ?_))
    match a with
    | ⟨0, _⟩ => rfl
    | ⟨1, _⟩ => rfl
  route c t := by
    rw [rstg_eq]
    refine (congrFun (h c).2.1 _).trans (congrArg r (funext fun a => Fin.ext ?_))
    match a with
    | ⟨0, _⟩ => rfl
    | ⟨1, _⟩ => rfl
  experts p k d f := by
    rw [wstg_eq]
    refine (congrFun (h p).2.2 _).trans (congrArg w (funext fun a => Fin.ext ?_))
    match a with
    | ⟨0, _⟩ => rfl
    | ⟨1, _⟩ => rfl
    | ⟨2, _⟩ => rfl

end Cert.KernelIdealProof

end
-- ==== Proof.lean ====
/-
The certificate: the kernel's and the reference's runs, and the claims they give.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.KernRun
public import proofs.«01_k».proof.Proof.IdealRun
public import proofs.«01_k».proof.Proof.IdealValue

@[expose] public section

noncomputable section

namespace Cert.Proof

open Idealize.ShloMosaic Idealize.SL.Sem

/-- Every run of the kernel at bit patterns ends, with its arguments as they were and no semaphore held. -/
theorem frame_kernel : Cert.quiescent_Kernel := fun m ρ _ =>
  (θ_run Cert.Kernel.defs _ _).mono (fun _ h => ⟨fun c => (h.1 c).2, h.2⟩) (Cert.KernelProof.run_result (F := Bits) m ρ)

/-- So does every run of its reading over the reals. -/
theorem frame_ideal : Cert.quiescent_KernelIdeal := fun m ρ _ =>
  (θ_run Cert.KernelIdeal.defs _ _).mono (fun _ h => ⟨fun c => (h.1 c).2, h.2⟩) (Cert.KernelIdealProof.run_result (F := Ideal) m ρ)

/-- And every run of the reference, which has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel's reading over the reals rewrites none of its operations. -/
theorem preserves : Cert.preserves_Kernel_KernelIdeal := trivial

/-- From blocks of the reference's arguments, the devices end with blocks of the reference's result. -/
theorem algebraic : Cert.algebraic_KernelIdeal_ReferenceIdeal := fun m ρ m' ρ' _ hm =>
  ⟨Cert.RefValue.out _ _ _,
    (θ_run Cert.KernelIdeal.defs _ _).mono
      (fun _ h c => ⟨(h.1 c).1.trans (Cert.KernelIdealProof.acc_block m ρ
        (Cert.KernelIdealProof.holds_of_blocks m ρ _ _ _ fun c => ⟨(hm c).1, (hm c).2.2.1, (hm c).2.2.2⟩) c _), (h.1 c).2⟩)
      (Cert.KernelIdealProof.run_result (F := Ideal) m ρ),
    (θ_run Cert.ReferenceIdeal.defs _ _).mono (fun _ h => h 0) (Cert.ReferenceIdeal.Value.run (F := Ideal) m' ρ')⟩

/-- The certificate's claims. -/
theorem claim : Cert.Claim :=
  ⟨Cert.Kernel.Gen.facts, Cert.KernelIdeal.Gen.facts, Cert.ReferenceIdeal.Gen.facts, frame_kernel, frame_ideal, frame_reference, preserves, algebraic⟩

end Cert.Proof

end
